-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))
      ∧ r.2.sem = fun _ => 0)

def preserves_Kernel_KernelIdeal : Prop :=
  IdealRules.named_const.Statement Cert.KernelIdeal.κ "inv_hw" .f32 0x37A72F05#32 ((50176⁻¹ : ℝ) : EReal)
  ∧ IdealRules.named_const.Statement Cert.KernelIdeal.κ "mask" .f32 0xF149F2CA#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v174) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
-- ==== Pre_scores_finite.lean ====
abbrev S16x1x224x224 : Shape := ⟨4, ![16, 1, 224, 224]⟩
abbrev S16x20x1x224x224 : Shape := ⟨5, ![16, 20, 1, 224, 224]⟩
abbrev S16x20x4 : Shape := ⟨3, ![16, 20, 4]⟩
abbrev S3x2048 : Shape := ⟨2, ![3, 2048]⟩
abbrev S2048 : Shape := ⟨1, ![2048]⟩
abbrev S2048x1024 : Shape := ⟨2, ![2048, 1024]⟩
abbrev S1024 : Shape := ⟨1, ![1024]⟩
abbrev S40x1024 : Shape := ⟨2, ![40, 1024]⟩
abbrev S1024x20480 : Shape := ⟨2, ![1024, 20480]⟩
abbrev S20480 : Shape := ⟨1, ![20480]⟩
abbrev S20480x1024 : Shape := ⟨2, ![20480, 1024]⟩
abbrev S1024x20 : Shape := ⟨2, ![1024, 20]⟩
abbrev S20 : Shape := ⟨1, ![20]⟩
abbrev S1024x1024 : Shape := ⟨2, ![1024, 1024]⟩
abbrev S_ : Shape := ⟨0, ![]⟩

class Facts : Prop where
  bcast_S_S16x1x224x224 : S_.BroadcastsInDim S16x1x224x224 (![] : Fin 0 → Fin S16x1x224x224.rank)
  reducesTo_S16x1x224x224_S_d0_1_2_3 : S16x1x224x224.ReducesTo [0, 1, 2, 3] S_
  h_S_ : 0 < S_.numel
  bcast_S_S1024 : S_.BroadcastsInDim S1024 (![] : Fin 0 → Fin S1024.rank)
  reducesTo_S1024_S_d0 : S1024.ReducesTo [0] S_
  bcast_S_S16x20x1x224x224 : S_.BroadcastsInDim S16x20x1x224x224 (![] : Fin 0 → Fin S16x20x1x224x224.rank)
  reducesTo_S16x20x1x224x224_S_d0_1_2_3_4 : S16x20x1x224x224.ReducesTo [0, 1, 2, 3, 4] S_
  bcast_S_S3x2048 : S_.BroadcastsInDim S3x2048 (![] : Fin 0 → Fin S3x2048.rank)
  reducesTo_S3x2048_S_d0_1 : S3x2048.ReducesTo [0, 1] S_
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S40x1024 : S_.BroadcastsInDim S40x1024 (![] : Fin 0 → Fin S40x1024.rank)
  reducesTo_S40x1024_S_d0_1 : S40x1024.ReducesTo [0, 1] S_
  bcast_S_S1024x20480 : S_.BroadcastsInDim S1024x20480 (![] : Fin 0 → Fin S1024x20480.rank)
  reducesTo_S1024x20480_S_d0_1 : S1024x20480.ReducesTo [0, 1] S_
  bcast_S_S20480 : S_.BroadcastsInDim S20480 (![] : Fin 0 → Fin S20480.rank)
  reducesTo_S20480_S_d0 : S20480.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part5 {F : FTy → Type} [FloatOps F] (main_arg26 : FVec F S1024x1024 .f32) (main_arg27 : FVec F S1024 .f32) (main_v81 : IVec S_ 1) (main_v84 : IVec S1024 1) : IVec S_ 1 :=
  let main_c_33 : IVec S_ 1 := constantI S_ 1 1#1
  let main_v85 : IVec S_ 1 := (fun x v => Host.reduce IntOp.andi x v reducesTo_S1024_S_d0 h_S_) main_v84 main_c_33
  let main_v86 : IVec S_ 1 := andi main_v81 main_v85
  let main_v87 : FVec F S1024x1024 .f32 := Host.absf main_arg26
  let main_cst_34 : FVec F S_ .f32 := constant S_ .f32 0x7F800000#32
  let main_v88 : FVec F S1024x1024 .f32 := broadcastInDim S1024x1024 ![] bcast_S_S1024x1024 main_cst_34
  let main_v89 : IVec S1024x1024 1 := cmpf .olt main_v87 main_v88
  let main_c_35 : IVec S_ 1 := constantI S_ 1 1#1
  let main_v90 : IVec S_ 1 := (fun x v => Host.reduce IntOp.andi x v reducesTo_S1024x1024_S_d0_1 h_S_) main_v89 main_c_35
  let main_v91 : IVec S_ 1 := andi main_v86 main_v90
  let main_v92 : FVec F S1024 .f32 := Host.absf main_arg27
  let main_cst_36 : FVec F S_ .f32 := constant S_ .f32 0x7F800000#32
  let main_v93 : FVec F S1024 .f32 := broadcastInDim S1024 ![] bcast_S_S1024 main_cst_36
  let main_v94 : IVec S1024 1 := cmpf .olt main_v92 main_v93
  let main_c_37 : IVec S_ 1 := constantI S_ 1 1#1
  let main_v95 : IVec S_ 1 := (fun x v => Host.reduce IntOp.andi x v reducesTo_S1024_S_d0 h_S_) main_v94 main_c_37
  let main_v96 : IVec S_ 1 := andi main_v91 main_v95
  main_v96

def fn_part4 {F : FTy → Type} [FloatOps F] (main_arg15 : FVec F S20480 .f32) (main_arg24 : FVec F S1024x1024 .f32) (main_arg25 : FVec F S1024 .f32) (main_arg26 : FVec F S1024x1024 .f32) (main_arg27 : FVec F S1024 .f32) (main_v66 : IVec S_ 1) (main_v67 : FVec F S1024x20480 .f32) : IVec S_ 1 :=
  let main_cst_26 : FVec F S_ .f32 := constant S_ .f32 0x7F800000#32
  let main_v68 : FVec F S1024x20480 .f32 := broadcastInDim S1024x20480 ![] bcast_S_S1024x20480 main_cst_26
  let main_v69 : IVec S1024x20480 1 := cmpf .olt main_v67 main_v68
  let main_c_27 : IVec S_ 1 := constantI S_ 1 1#1
  let main_v70 : IVec S_ 1 := (fun x v => Host.reduce IntOp.andi x v reducesTo_S1024x20480_S_d0_1 h_S_) main_v69 main_c_27
  let main_v71 : IVec S_ 1 := andi main_v66 main_v70
  let main_v72 : FVec F S20480 .f32 := Host.absf main_arg15
  let main_cst_28 : FVec F S_ .f32 := constant S_ .f32 0x7F800000#32
  let main_v73 : FVec F S20480 .f32 := broadcastInDim S20480 ![] bcast_S_S20480 main_cst_28
  let main_v74 : IVec S20480 1 := cmpf .olt main_v72 main_v73
  let main_c_29 : IVec S_ 1 := constantI S_ 1 1#1
  let main_v75 : IVec S_ 1 := (fun x v => Host.reduce IntOp.andi x v reducesTo_S20480_S_d0 h_S_) main_v74 main_c_29
  let main_v76 : IVec S_ 1 := andi main_v71 main_v75
  let main_v77 : FVec F S1024x1024 .f32 := Host.absf main_arg24
  let main_cst_30 : FVec F S_ .f32 := constant S_ .f32 0x7F800000#32
  let main_v78 : FVec F S1024x1024 .f32 := broadcastInDim S1024x1024 ![] bcast_S_S1024x1024 main_cst_30
  let main_v79 : IVec S1024x1024 1 := cmpf .olt main_v77 main_v78
  let main_c_31 : IVec S_ 1 := constantI S_ 1 1#1
  let main_v80 : IVec S_ 1 := (fun x v => Host.reduce IntOp.andi x v reducesTo_S1024x1024_S_d0_1 h_S_) main_v79 main_c_31
  let main_v81 : IVec S_ 1 := andi main_v76 main_v80
  let main_v82 : FVec F S1024 .f32 := Host.absf main_arg25
  let main_cst_32 : FVec F S_ .f32 := constant S_ .f32 0x7F800000#32
  let main_v83 : FVec F S1024 .f32 := broadcastInDim S1024 ![] bcast_S_S1024 main_cst_32
  let main_v84 : IVec S1024 1 := cmpf .olt main_v82 main_v83
  fn_part5 (F := F) main_arg26 main_arg27 main_v81 main_v84

def fn_part3 {F : FTy → Type} [FloatOps F] (main_arg11 : FVec F S1024 .f32) (main_arg12 : FVec F S1024 .f32) (main_arg13 : FVec F S1024 .f32) (main_arg14 : FVec F S1024x20480 .f32) (main_arg15 : FVec F S20480 .f32) (main_arg24 : FVec F S1024x1024 .f32) (main_arg25 : FVec F S1024 .f32) (main_arg26 : FVec F S1024x1024 .f32) (main_arg27 : FVec F S1024 .f32) (main_v46 : IVec S_ 1) (main_v49 : IVec S1024 1) (main_c_19 : IVec S_ 1) : IVec S_ 1 :=
  let main_v50 : IVec S_ 1 := (fun x v => Host.reduce IntOp.andi x v reducesTo_S1024_S_d0 h_S_) main_v49 main_c_19
  let main_v51 : IVec S_ 1 := andi main_v46 main_v50
  let main_v52 : FVec F S1024 .f32 := Host.absf main_arg11
  let main_cst_20 : FVec F S_ .f32 := constant S_ .f32 0x7F800000#32
  let main_v53 : FVec F S1024 .f32 := broadcastInDim S1024 ![] bcast_S_S1024 main_cst_20
  let main_v54 : IVec S1024 1 := cmpf .olt main_v52 main_v53
  let main_c_21 : IVec S_ 1 := constantI S_ 1 1#1
  let main_v55 : IVec S_ 1 := (fun x v => Host.reduce IntOp.andi x v reducesTo_S1024_S_d0 h_S_) main_v54 main_c_21
  let main_v56 : IVec S_ 1 := andi main_v51 main_v55
  let main_v57 : FVec F S1024 .f32 := Host.absf main_arg12
  let main_cst_22 : FVec F S_ .f32 := constant S_ .f32 0x7F800000#32
  let main_v58 : FVec F S1024 .f32 := broadcastInDim S1024 ![] bcast_S_S1024 main_cst_22
  let main_v59 : IVec S1024 1 := cmpf .olt main_v57 main_v58
  let main_c_23 : IVec S_ 1 := constantI S_ 1 1#1
  let main_v60 : IVec S_ 1 := (fun x v => Host.reduce IntOp.andi x v reducesTo_S1024_S_d0 h_S_) main_v59 main_c_23
  let main_v61 : IVec S_ 1 := andi main_v56 main_v60
  let main_v62 : FVec F S1024 .f32 := Host.absf main_arg13
  let main_cst_24 : FVec F S_ .f32 := constant S_ .f32 0x7F800000#32
  let main_v63 : FVec F S1024 .f32 := broadcastInDim S1024 ![] bcast_S_S1024 main_cst_24
  let main_v64 : IVec S1024 1 := cmpf .olt main_v62 main_v63
  let main_c_25 : IVec S_ 1 := constantI S_ 1 1#1
  let main_v65 : IVec S_ 1 := (fun x v => Host.reduce IntOp.andi x v reducesTo_S1024_S_d0 h_S_) main_v64 main_c_25
  let main_v66 : IVec S_ 1 := andi main_v61 main_v65
  let main_v67 : FVec F S1024x20480 .f32 := Host.absf main_arg14
  fn_part4 (F := F) main_arg15 main_arg24 main_arg25 main_arg26 main_arg27 main_v66 main_v67

def fn_part2 {F : FTy → Type} [FloatOps F] (main_arg8 : FVec F S40x1024 .f32) (main_arg9 : FVec F S1024 .f32) (main_arg10 : FVec F S1024 .f32) (main_arg11 : FVec F S1024 .f32) (main_arg12 : FVec F S1024 .f32) (main_arg13 : FVec F S1024 .f32) (main_arg14 : FVec F S1024x20480 .f32) (main_arg15 : FVec F S20480 .f32) (main_arg24 : FVec F S1024x1024 .f32) (main_arg25 : FVec F S1024 .f32) (main_arg26 : FVec F S1024x1024 .f32) (main_arg27 : FVec F S1024 .f32) (main_v31 : IVec S_ 1) (main_v32 : FVec F S1024 .f32) (main_cst_12 : FVec F S_ .f32) : IVec S_ 1 :=
  let main_v33 : FVec F S1024 .f32 := broadcastInDim S1024 ![] bcast_S_S1024 main_cst_12
  let main_v34 : IVec S1024 1 := cmpf .olt main_v32 main_v33
  let main_c_13 : IVec S_ 1 := constantI S_ 1 1#1
  let main_v35 : IVec S_ 1 := (fun x v => Host.reduce IntOp.andi x v reducesTo_S1024_S_d0 h_S_) main_v34 main_c_13
  let main_v36 : IVec S_ 1 := andi main_v31 main_v35
  let main_v37 : FVec F S40x1024 .f32 := Host.absf main_arg8
  let main_cst_14 : FVec F S_ .f32 := constant S_ .f32 0x7F800000#32
  let main_v38 : FVec F S40x1024 .f32 := broadcastInDim S40x1024 ![] bcast_S_S40x1024 main_cst_14
  let main_v39 : IVec S40x1024 1 := cmpf .olt main_v37 main_v38
  let main_c_15 : IVec S_ 1 := constantI S_ 1 1#1
  let main_v40 : IVec S_ 1 := (fun x v => Host.reduce IntOp.andi x v reducesTo_S40x1024_S_d0_1 h_S_) main_v39 main_c_15
  let main_v41 : IVec S_ 1 := andi main_v36 main_v40
  let main_v42 : FVec F S1024 .f32 := Host.absf main_arg9
  let main_cst_16 : FVec F S_ .f32 := constant S_ .f32 0x7F800000#32
  let main_v43 : FVec F S1024 .f32 := broadcastInDim S1024 ![] bcast_S_S1024 main_cst_16
  let main_v44 : IVec S1024 1 := cmpf .olt main_v42 main_v43
  let main_c_17 : IVec S_ 1 := constantI S_ 1 1#1
  let main_v45 : IVec S_ 1 := (fun x v => Host.reduce IntOp.andi x v reducesTo_S1024_S_d0 h_S_) main_v44 main_c_17
  let main_v46 : IVec S_ 1 := andi main_v41 main_v45
  let main_v47 : FVec F S1024 .f32 := Host.absf main_arg10
  let main_cst_18 : FVec F S_ .f32 := constant S_ .f32 0x7F800000#32
  let main_v48 : FVec F S1024 .f32 := broadcastInDim S1024 ![] bcast_S_S1024 main_cst_18
  let main_v49 : IVec S1024 1 := cmpf .olt main_v47 main_v48
  let main_c_19 : IVec S_ 1 := constantI S_ 1 1#1
  fn_part3 (F := F) main_arg11 main_arg12 main_arg13 main_arg14 main_arg15 main_arg24 main_arg25 main_arg26 main_arg27 main_v46 main_v49 main_c_19

def fn_part1 {F : FTy → Type} [FloatOps F] (main_arg4 : FVec F S3x2048 .f32) (main_arg5 : FVec F S2048 .f32) (main_arg6 : FVec F S2048x1024 .f32) (main_arg7 : FVec F S1024 .f32) (main_arg8 : FVec F S40x1024 .f32) (main_arg9 : FVec F S1024 .f32) (main_arg10 : FVec F S1024 .f32) (main_arg11 : FVec F S1024 .f32) (main_arg12 : FVec F S1024 .f32) (main_arg13 : FVec F S1024 .f32) (main_arg14 : FVec F S1024x20480 .f32) (main_arg15 : FVec F S20480 .f32) (main_arg24 : FVec F S1024x1024 .f32) (main_arg25 : FVec F S1024 .f32) (main_arg26 : FVec F S1024x1024 .f32) (main_arg27 : FVec F S1024 .f32) (main_v11 : IVec S_ 1) (main_v15 : IVec S_ 1) : IVec S_ 1 :=
  let main_v16 : IVec S_ 1 := andi main_v11 main_v15
  let main_v17 : FVec F S3x2048 .f32 := Host.absf main_arg4
  let main_cst_6 : FVec F S_ .f32 := constant S_ .f32 0x7F800000#32
  let main_v18 : FVec F S3x2048 .f32 := broadcastInDim S3x2048 ![] bcast_S_S3x2048 main_cst_6
  let main_v19 : IVec S3x2048 1 := cmpf .olt main_v17 main_v18
  let main_c_7 : IVec S_ 1 := constantI S_ 1 1#1
  let main_v20 : IVec S_ 1 := (fun x v => Host.reduce IntOp.andi x v reducesTo_S3x2048_S_d0_1 h_S_) main_v19 main_c_7
  let main_v21 : IVec S_ 1 := andi main_v16 main_v20
  let main_v22 : FVec F S2048 .f32 := Host.absf main_arg5
  let main_cst_8 : FVec F S_ .f32 := constant S_ .f32 0x7F800000#32
  let main_v23 : FVec F S2048 .f32 := broadcastInDim S2048 ![] bcast_S_S2048 main_cst_8
  let main_v24 : IVec S2048 1 := cmpf .olt main_v22 main_v23
  let main_c_9 : IVec S_ 1 := constantI S_ 1 1#1
  let main_v25 : IVec S_ 1 := (fun x v => Host.reduce IntOp.andi x v reducesTo_S2048_S_d0 h_S_) main_v24 main_c_9
  let main_v26 : IVec S_ 1 := andi main_v21 main_v25
  let main_v27 : FVec F S2048x1024 .f32 := Host.absf main_arg6
  let main_cst_10 : FVec F S_ .f32 := constant S_ .f32 0x7F800000#32
  let main_v28 : FVec F S2048x1024 .f32 := broadcastInDim S2048x1024 ![] bcast_S_S2048x1024 main_cst_10
  let main_v29 : IVec S2048x1024 1 := cmpf .olt main_v27 main_v28
  let main_c_11 : IVec S_ 1 := constantI S_ 1 1#1
  let main_v30 : IVec S_ 1 := (fun x v => Host.reduce IntOp.andi x v reducesTo_S2048x1024_S_d0_1 h_S_) main_v29 main_c_11
  let main_v31 : IVec S_ 1 := andi main_v26 main_v30
  let main_v32 : FVec F S1024 .f32 := Host.absf main_arg7
  let main_cst_12 : FVec F S_ .f32 := constant S_ .f32 0x7F800000#32
  fn_part2 (F := F) main_arg8 main_arg9 main_arg10 main_arg11 main_arg12 main_arg13 main_arg14 main_arg15 main_arg24 main_arg25 main_arg26 main_arg27 main_v31 main_v32 main_cst_12

def fn {F : FTy → Type} [FloatOps F] (main_arg0 : FVec F S16x1x224x224 .f32) (main_arg1 : FVec F S16x1x224x224 .f32) (main_arg2 : FVec F S16x20x1x224x224 .f32) (main_arg3 : FVec F S16x20x4 .f32) (main_arg4 : FVec F S3x2048 .f32) (main_arg5 : FVec F S2048 .f32) (main_arg6 : FVec F S2048x1024 .f32) (main_arg7 : FVec F S1024 .f32) (main_arg8 : FVec F S40x1024 .f32) (main_arg9 : FVec F S1024 .f32) (main_arg10 : FVec F S1024 .f32) (main_arg11 : FVec F S1024 .f32) (main_arg12 : FVec F S1024 .f32) (main_arg13 : FVec F S1024 .f32) (main_arg14 : FVec F S1024x20480 .f32) (main_arg15 : FVec F S20480 .f32) (main_arg16 : FVec F S20480x1024 .f32) (main_arg17 : FVec F S1024 .f32) (main_arg18 : FVec F S1024 .f32) (main_arg19 : FVec F S1024 .f32) (main_arg20 : FVec F S1024 .f32) (main_arg21 : FVec F S1024 .f32) (main_arg22 : FVec F S1024x20 .f32) (main_arg23 : FVec F S20 .f32) (main_arg24 : FVec F S1024x1024 .f32) (main_arg25 : FVec F S1024 .f32) (main_arg26 : FVec F S1024x1024 .f32) (main_arg27 : FVec F S1024 .f32) (main_arg28 : FVec F S1024x1024 .f32) (main_arg29 : FVec F S1024 .f32) (main_arg30 : FVec F S1024x1024 .f32) (main_arg31 : FVec F S1024 .f32) : IVec S_ 1 :=
  let main_cst : FVec F S_ .f32 := constant S_ .f32 0x00000000#32
  let main_v0 : FVec F S16x1x224x224 .f32 := broadcastInDim S16x1x224x224 ![] bcast_S_S16x1x224x224 main_cst
  let main_v1 : IVec S16x1x224x224 1 := cmpf .oge main_arg1 main_v0
  let main_c : IVec S_ 1 := constantI S_ 1 1#1
  let main_v2 : IVec S_ 1 := (fun x v => Host.reduce IntOp.andi x v reducesTo_S16x1x224x224_S_d0_1_2_3 h_S_) main_v1 main_c
  let main_cst_0 : FVec F S_ .f32 := constant S_ .f32 0x00000000#32
  let main_v3 : FVec F S1024 .f32 := broadcastInDim S1024 ![] bcast_S_S1024 main_cst_0
  let main_v4 : IVec S1024 1 := cmpf .oge main_arg13 main_v3
  let main_c_1 : IVec S_ 1 := constantI S_ 1 1#1
  let main_v5 : IVec S_ 1 := (fun x v => Host.reduce IntOp.andi x v reducesTo_S1024_S_d0 h_S_) main_v4 main_c_1
  let main_v6 : IVec S_ 1 := andi main_v2 main_v5
  let main_v7 : FVec F S16x1x224x224 .f32 := Host.absf main_arg1
  let main_cst_2 : FVec F S_ .f32 := constant S_ .f32 0x7F800000#32
  let main_v8 : FVec F S16x1x224x224 .f32 := broadcastInDim S16x1x224x224 ![] bcast_S_S16x1x224x224 main_cst_2
  let main_v9 : IVec S16x1x224x224 1 := cmpf .olt main_v7 main_v8
  let main_c_3 : IVec S_ 1 := constantI S_ 1 1#1
  let main_v10 : IVec S_ 1 := (fun x v => Host.reduce IntOp.andi x v reducesTo_S16x1x224x224_S_d0_1_2_3 h_S_) main_v9 main_c_3
  let main_v11 : IVec S_ 1 := andi main_v6 main_v10
  let main_v12 : FVec F S16x20x1x224x224 .f32 := Host.absf main_arg2
  let main_cst_4 : FVec F S_ .f32 := constant S_ .f32 0x7F800000#32
  let main_v13 : FVec F S16x20x1x224x224 .f32 := broadcastInDim S16x20x1x224x224 ![] bcast_S_S16x20x1x224x224 main_cst_4
  let main_v14 : IVec S16x20x1x224x224 1 := cmpf .olt main_v12 main_v13
  let main_c_5 : IVec S_ 1 := constantI S_ 1 1#1
  let main_v15 : IVec S_ 1 := (fun x v => Host.reduce IntOp.andi x v reducesTo_S16x20x1x224x224_S_d0_1_2_3_4 h_S_) main_v14 main_c_5
  fn_part1 (F := F) main_arg4 main_arg5 main_arg6 main_arg7 main_arg8 main_arg9 main_arg10 main_arg11 main_arg12 main_arg13 main_arg14 main_arg15 main_arg24 main_arg25 main_arg26 main_arg27 main_v11 main_v15
-- ==== Kernel.lean ====
abbrev S16x1x224x224 : Shape := ⟨4, ![16, 1, 224, 224]⟩
abbrev S16x20x1x224x224 : Shape := ⟨5, ![16, 20, 1, 224, 224]⟩
abbrev S16x20x4 : Shape := ⟨3, ![16, 20, 4]⟩
abbrev S3x2048 : Shape := ⟨2, ![3, 2048]⟩
abbrev S2048 : Shape := ⟨1, ![2048]⟩
abbrev S2048x1024 : Shape := ⟨2, ![2048, 1024]⟩
abbrev S1024 : Shape := ⟨1, ![1024]⟩
abbrev S40x1024 : Shape := ⟨2, ![40, 1024]⟩
abbrev S1024x20480 : Shape := ⟨2, ![1024, 20480]⟩
abbrev S20480 : Shape := ⟨1, ![20480]⟩
abbrev S20480x1024 : Shape := ⟨2, ![20480, 1024]⟩
abbrev S1024x20 : Shape := ⟨2, ![1024, 20]⟩
abbrev S20 : Shape := ⟨1, ![20]⟩
abbrev S1024x1024 : Shape := ⟨2, ![1024, 1024]⟩
abbrev S16x20x224x224 : Shape := ⟨4, ![16, 20, 224, 224]⟩
abbrev S16x224x224 : Shape := ⟨3, ![16, 224, 224]⟩
abbrev S16x4x20 : Shape := ⟨3, ![16, 4, 20]⟩
abbrev S16x1x20 : Shape := ⟨3, ![16, 1, 20]⟩
abbrev S2x20x224x224 : Shape := ⟨4, ![2, 20, 224, 224]⟩
abbrev S2x224x224 : Shape := ⟨3, ![2, 224, 224]⟩
abbrev S2x4x20 : Shape := ⟨3, ![2, 4, 20]⟩
abbrev S2x1x20 : Shape := ⟨3, ![2, 1, 20]⟩
abbrev S1x20x224x224 : Shape := ⟨4, ![1, 20, 224, 224]⟩
abbrev S20x224x224 : Shape := ⟨3, ![20, 224, 224]⟩
abbrev S1x224x224 : Shape := ⟨3, ![1, 224, 224]⟩
abbrev S224x224 : Shape := ⟨2, ![224, 224]⟩
abbrev S1x4x20 : Shape := ⟨3, ![1, 4, 20]⟩
abbrev S4x20 : Shape := ⟨2, ![4, 20]⟩
abbrev S1x20 : Shape := ⟨2, ![1, 20]⟩
abbrev S224x20 : Shape := ⟨2, ![224, 20]⟩
abbrev S1 : Shape := ⟨1, ![1]⟩
abbrev S1x1x1 : Shape := ⟨3, ![1, 1, 1]⟩
abbrev S1x1x20 : Shape := ⟨3, ![1, 1, 20]⟩
abbrev S16x20 : Shape := ⟨2, ![16, 20]⟩
abbrev S20x16 : Shape := ⟨2, ![20, 16]⟩
abbrev S320x1 : Shape := ⟨2, ![320, 1]⟩
abbrev S1x2048 : Shape := ⟨2, ![1, 2048]⟩
abbrev S1x1024 : Shape := ⟨2, ![1, 1024]⟩
abbrev S20x1024 : Shape := ⟨2, ![20, 1024]⟩
abbrev S20x1x1024 : Shape := ⟨3, ![20, 1, 1024]⟩
abbrev S320x1024 : Shape := ⟨2, ![320, 1024]⟩
abbrev S20x16x1024 : Shape := ⟨3, ![20, 16, 1024]⟩
abbrev S1024x2048 : Shape := ⟨2, ![1024, 2048]⟩
abbrev S2x1x1024 : Shape := ⟨3, ![2, 1, 1024]⟩
abbrev S2x16x1024 : Shape := ⟨3, ![2, 16, 1024]⟩
abbrev S16x1024 : Shape := ⟨2, ![16, 1024]⟩
abbrev S320x2048 : Shape := ⟨2, ![320, 2048]⟩
abbrev S1x1x1024 : Shape := ⟨3, ![1, 1, 1024]⟩
abbrev S1x16x1024 : Shape := ⟨3, ![1, 16, 1024]⟩
abbrev S20x1024x1024 : Shape := ⟨3, ![20, 1024, 1024]⟩
abbrev S2x1024x1024 : Shape := ⟨3, ![2, 1024, 1024]⟩
abbrev S320x320 : Shape := ⟨2, ![320, 320]⟩
abbrev S320x256 : Shape := ⟨2, ![320, 256]⟩
abbrev S320 : Shape := ⟨1, ![320]⟩
abbrev S256x1024 : Shape := ⟨2, ![256, 1024]⟩
abbrev S1x1024x1024 : Shape := ⟨3, ![1, 1024, 1024]⟩

abbrev nBuf : Space → Nat
  | .hbm => 70
  | .vmem => 60
  | .smem => 0
  | _ => 0

abbrev bufTy : (tb : Table) → Fin (tcTables nBuf tb) → BufTy
  | .hbm, ⟨0, _⟩ => ⟨S16x1x224x224, .f32⟩
  | .hbm, ⟨1, _⟩ => ⟨S16x1x224x224, .f32⟩
  | .hbm, ⟨2, _⟩ => ⟨S16x20x1x224x224, .f32⟩
  | .hbm, ⟨3, _⟩ => ⟨S16x20x4, .f32⟩
  | .hbm, ⟨4, _⟩ => ⟨S3x2048, .f32⟩
  | .hbm, ⟨5, _⟩ => ⟨S2048, .f32⟩
  | .hbm, ⟨6, _⟩ => ⟨S2048x1024, .f32⟩
  | .hbm, ⟨7, _⟩ => ⟨S1024, .f32⟩
  | .hbm, ⟨8, _⟩ => ⟨S40x1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x20480, .f32⟩
  | .hbm, ⟨15, _⟩ => ⟨S20480, .f32⟩
  | .hbm, ⟨16, _⟩ => ⟨S20480x1024, .f32⟩
  | .hbm, ⟨17, _⟩ => ⟨S1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024x20, .f32⟩
  | .hbm, ⟨23, _⟩ => ⟨S20, .f32⟩
  | .hbm, ⟨24, _⟩ => ⟨S1024x1024, .f32⟩
  | .hbm, ⟨25, _⟩ => ⟨S1024, .f32⟩
  | .hbm, ⟨26, _⟩ => ⟨S1024x1024, .f32⟩
  | .hbm, ⟨27, _⟩ => ⟨S1024, .f32⟩
  | .hbm, ⟨28, _⟩ => ⟨S1024x1024, .f32⟩
  | .hbm, ⟨29, _⟩ => ⟨S1024, .f32⟩
  | .hbm, ⟨30, _⟩ => ⟨S1024x1024, .f32⟩
  | .hbm, ⟨31, _⟩ => ⟨S1024, .f32⟩
  | .hbm, ⟨32, _⟩ => ⟨S16x20x224x224, .f32⟩
  | .hbm, ⟨33, _⟩ => ⟨S16x224x224, .f32⟩
  | .hbm, ⟨34, _⟩ => ⟨S16x4x20, .f32⟩
  | .hbm, ⟨35, _⟩ => ⟨S16x1x20, .f32⟩
  | .hbm, ⟨36, _⟩ => ⟨S16x1x20, .f32⟩
  | .hbm, ⟨37, _⟩ => ⟨S16x1x20, .f32⟩
  | .hbm, ⟨38, _⟩ => ⟨S16x20, .f32⟩
  | .hbm, ⟨39, _⟩ => ⟨S20x16, .f32⟩
  | .hbm, ⟨40, _⟩ => ⟨S320x1, .f32⟩
  | .hbm, ⟨41, _⟩ => ⟨S1x2048, .f32⟩
  | .hbm, ⟨42, _⟩ => ⟨S1x1024, .f32⟩
  | .hbm, ⟨43, _⟩ => ⟨S16x20, .f32⟩
  | .hbm, ⟨44, _⟩ => ⟨S16x20, .f32⟩
  | .hbm, ⟨45, _⟩ => ⟨S20x1024, .f32⟩
  | .hbm, ⟨46, _⟩ => ⟨S20x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S20x1x1024, .f32⟩
  | .hbm, ⟨54, _⟩ => ⟨S1x1024, .f32⟩
  | .hbm, ⟨55, _⟩ => ⟨S1x1024, .f32⟩
  | .hbm, ⟨56, _⟩ => ⟨S320x1024, .bf16⟩
  | .hbm, ⟨57, _⟩ => ⟨S20x16x1024, .bf16⟩
  | .hbm, ⟨58, _⟩ => ⟨S20x16x1024, .bf16⟩
  | .hbm, ⟨59, _⟩ => ⟨S320x1024, .bf16⟩
  | .hbm, ⟨60, _⟩ => ⟨S320x1024, .bf16⟩
  | .hbm, ⟨61, _⟩ => ⟨S1x1024, .f32⟩
  | .hbm, ⟨62, _⟩ => ⟨S20x1024x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S1x1024, .f32⟩
  | .hbm, ⟨68, _⟩ => ⟨S1x20, .f32⟩
  | .hbm, ⟨69, _⟩ => ⟨S16x20, .f32⟩
  | .local _ .vmem, ⟨0, _⟩ => ⟨S2x20x224x224, .f32⟩
  | .local _ .vmem, ⟨1, _⟩ => ⟨S2x20x224x224, .f32⟩
  | .local _ .vmem, ⟨2, _⟩ => ⟨S2x224x224, .f32⟩
  | .local _ .vmem, ⟨3, _⟩ => ⟨S2x224x224, .f32⟩
  | .local _ .vmem, ⟨4, _⟩ => ⟨S2x4x20, .f32⟩
  | .local _ .vmem, ⟨5, _⟩ => ⟨S2x4x20, .f32⟩
  | .local _ .vmem, ⟨6, _⟩ => ⟨S2x1x20, .f32⟩
  | .local _ .vmem, ⟨7, _⟩ => ⟨S2x1x20, .f32⟩
  | .local _ .vmem, ⟨8, _⟩ => ⟨S2x1x20, .f32⟩
  | .local _ .vmem, ⟨9, _⟩ => ⟨S2x1x20, .f32⟩
  | .local _ .vmem, ⟨10, _⟩ => ⟨S2x1x20, .f32⟩
  | .local _ .vmem, ⟨11, _⟩ => ⟨S2x1x20, .f32⟩
  | .local _ .vmem, ⟨12, _⟩ => ⟨S320x1, .f32⟩
  | .local _ .vmem, ⟨13, _⟩ => ⟨S3x2048, .f32⟩
  | .local _ .vmem, ⟨14, _⟩ => ⟨S1x2048, .f32⟩
  | .local _ .vmem, ⟨15, _⟩ => ⟨S2048x1024, .f32⟩
  | .local _ .vmem, ⟨16, _⟩ => ⟨S1x1024, .f32⟩
  | .local _ .vmem, ⟨17, _⟩ => ⟨S16x20, .f32⟩
  | .local _ .vmem, ⟨18, _⟩ => ⟨S16x20, .f32⟩
  | .local _ .vmem, ⟨19, _⟩ => ⟨S20x1024, .f32⟩
  | .local _ .vmem, ⟨20, _⟩ => ⟨S20x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1024x1024, .f32⟩
  | .local _ .vmem, ⟨27, _⟩ => ⟨S1x1024, .f32⟩
  | .local _ .vmem, ⟨28, _⟩ => ⟨S1024x2048, .f32⟩
  | .local _ .vmem, ⟨29, _⟩ => ⟨S1024x2048, .f32⟩
  | .local _ .vmem, ⟨30, _⟩ => ⟨S2x1x1024, .f32⟩
  | .local _ .vmem, ⟨31, _⟩ => ⟨S2x1x1024, .f32⟩
  | .local _ .vmem, ⟨32, _⟩ => ⟨S1024x1024, .f32⟩
  | .local _ .vmem, ⟨33, _⟩ => ⟨S1x1024, .f32⟩
  | .local _ .vmem, ⟨34, _⟩ => ⟨S1024x1024, .f32⟩
  | .local _ .vmem, ⟨35, _⟩ => ⟨S1x1024, .f32⟩
  | .local _ .vmem, ⟨36, _⟩ => ⟨S320x1024, .bf16⟩
  | .local _ .vmem, ⟨37, _⟩ => ⟨S2x16x1024, .bf16⟩
  | .local _ .vmem, ⟨38, _⟩ => ⟨S2x16x1024, .bf16⟩
  | .local _ .vmem, ⟨39, _⟩ => ⟨S2x16x1024, .bf16⟩
  | .local _ .vmem, ⟨40, _⟩ => ⟨S2x16x1024, .bf16⟩
  | .local _ .vmem, ⟨41, _⟩ => ⟨S16x1024, .bf16⟩
  | .local _ .vmem, ⟨42, _⟩ => ⟨S320x1024, .bf16⟩
  | .local _ .vmem, ⟨43, _⟩ => ⟨S320x1024, .bf16⟩
  | .local _ .vmem, ⟨44, _⟩ => ⟨S320x1024, .bf16⟩
  | .local _ .vmem, ⟨45, _⟩ => ⟨S1024x1024, .f32⟩
  | .local _ .vmem, ⟨46, _⟩ => ⟨S1x1024, .f32⟩
  | .local _ .vmem, ⟨47, _⟩ => ⟨S2x1024x1024, .f32⟩
  | .local _ .vmem, ⟨48, _⟩ => ⟨S2x1024x1024, .f32⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1024x20, .f32⟩
  | .local _ .vmem, ⟨55, _⟩ => ⟨S1x20, .f32⟩
  | .local _ .vmem, ⟨56, _⟩ => ⟨S16x20, .f32⟩
  | .local _ .vmem, ⟨57, _⟩ => ⟨S16x20, .f32⟩
  | .local _ .vmem, ⟨58, _⟩ => ⟨S20x16x1024, .bf16⟩
  | .local _ .vmem, ⟨59, _⟩ => ⟨S16x1024, .f32⟩
  | _, _ => ⟨S16x1x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3_0 : Ref sig .tc := ⟨.hbm, 35, rfl⟩
abbrev main_v3_1 : Ref sig .tc := ⟨.hbm, 36, rfl⟩
abbrev main_v3_2 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22_0 : Ref sig .tc := ⟨.hbm, 56, rfl⟩
abbrev main_v22_1 : Ref sig .tc := ⟨.hbm, 57, rfl⟩
abbrev main_v22_2 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg13_0 : Ref sig .tc := ⟨.vmem, 25, rfl⟩
abbrev cc1_stg14_0 : Ref sig .tc := ⟨.vmem, 26, rfl⟩
abbrev cc1_stg15_0 : Ref sig .tc := ⟨.vmem, 27, rfl⟩
abbrev cc1_stg16_0 : Ref sig .tc := ⟨.vmem, 28, rfl⟩
abbrev cc1_stg16_1 : Ref sig .tc := ⟨.vmem, 29, rfl⟩
abbrev cc1_stg17_0 : Ref sig .tc := ⟨.vmem, 30, rfl⟩
abbrev cc1_stg17_1 : Ref sig .tc := ⟨.vmem, 31, rfl⟩
abbrev cc1_stg18_0 : Ref sig .tc := ⟨.vmem, 32, rfl⟩
abbrev cc1_stg19_0 : Ref sig .tc := ⟨.vmem, 33, rfl⟩
abbrev cc1_stg20_0 : Ref sig .tc := ⟨.vmem, 34, rfl⟩
abbrev cc1_stg21_0 : Ref sig .tc := ⟨.vmem, 35, rfl⟩
abbrev cc1_stg22_0 : Ref sig .tc := ⟨.vmem, 36, rfl⟩
abbrev cc1_stg23_0 : Ref sig .tc := ⟨.vmem, 37, rfl⟩
abbrev cc1_stg23_1 : Ref sig .tc := ⟨.vmem, 38, rfl⟩
abbrev cc1_stg24_0 : Ref sig .tc := ⟨.vmem, 39, rfl⟩
abbrev cc1_stg24_1 : Ref sig .tc := ⟨.vmem, 40, rfl⟩
abbrev cc1_scratch0 : Ref sig .tc := ⟨.vmem, 41, rfl⟩
abbrev cc2_stg0_0 : Ref sig .tc := ⟨.vmem, 42, rfl⟩
abbrev cc2_stg1_0 : Ref sig .tc := ⟨.vmem, 43, rfl⟩
abbrev cc2_stg2_0 : Ref sig .tc := ⟨.vmem, 44, rfl⟩
abbrev cc2_stg3_0 : Ref sig .tc := ⟨.vmem, 45, rfl⟩
abbrev cc2_stg4_0 : Ref sig .tc := ⟨.vmem, 46, rfl⟩
abbrev cc2_stg5_0 : Ref sig .tc := ⟨.vmem, 47, rfl⟩
abbrev cc2_stg5_1 : Ref sig .tc := ⟨.vmem, 48, rfl⟩
abbrev cc2_stg6_0 : Ref sig .tc := ⟨.vmem, 49, rfl⟩
abbrev cc2_stg7_0 : Ref sig .tc := ⟨.vmem, 50, rfl⟩
abbrev cc2_stg8_0 : Ref sig .tc := ⟨.vmem, 51, rfl⟩
abbrev cc2_stg9_0 : Ref sig .tc := ⟨.vmem, 52, rfl⟩
abbrev cc2_stg10_0 : Ref sig .tc := ⟨.vmem, 53, rfl⟩
abbrev cc2_stg11_0 : Ref sig .tc := ⟨.vmem, 54, rfl⟩
abbrev cc2_stg12_0 : Ref sig .tc := ⟨.vmem, 55, rfl⟩
abbrev cc2_stg13_0 : Ref sig .tc := ⟨.vmem, 56, rfl⟩
abbrev cc2_stg14_0 : Ref sig .tc := ⟨.vmem, 57, rfl⟩
abbrev cc2_scratch0 : Ref sig .tc := ⟨.vmem, 58, rfl⟩
abbrev cc2_scratch1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem13_0 : DmaSem sig := 25
abbrev cc1_sem14_0 : DmaSem sig := 26
abbrev cc1_sem15_0 : DmaSem sig := 27
abbrev cc1_sem16_0 : DmaSem sig := 28
abbrev cc1_sem16_1 : DmaSem sig := 29
abbrev cc1_sem17_0 : DmaSem sig := 30
abbrev cc1_sem17_1 : DmaSem sig := 31
abbrev cc1_sem18_0 : DmaSem sig := 32
abbrev cc1_sem19_0 : DmaSem sig := 33
abbrev cc1_sem20_0 : DmaSem sig := 34
abbrev cc1_sem21_0 : DmaSem sig := 35
abbrev cc1_sem22_0 : DmaSem sig := 36
abbrev cc1_sem23_0 : DmaSem sig := 37
abbrev cc1_sem23_1 : DmaSem sig := 38
abbrev cc1_sem24_0 : DmaSem sig := 39
abbrev cc1_sem24_1 : DmaSem sig := 40
abbrev cc2_sem0_0 : DmaSem sig := 41
abbrev cc2_sem1_0 : DmaSem sig := 42
abbrev cc2_sem2_0 : DmaSem sig := 43
abbrev cc2_sem3_0 : DmaSem sig := 44
abbrev cc2_sem4_0 : DmaSem sig := 45
abbrev cc2_sem5_0 : DmaSem sig := 46
abbrev cc2_sem5_1 : DmaSem sig := 47
abbrev cc2_sem6_0 : DmaSem sig := 48
abbrev cc2_sem7_0 : DmaSem sig := 49
abbrev cc2_sem8_0 : DmaSem sig := 50
abbrev cc2_sem9_0 : DmaSem sig := 51
abbrev cc2_sem10_0 : DmaSem sig := 52
abbrev cc2_sem11_0 : DmaSem sig := 53
abbrev cc2_sem12_0 : DmaSem sig := 54
abbrev cc2_sem13_0 : DmaSem sig := 55
abbrev cc2_sem14_0 : DmaSem sig := 56

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x20x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x224x224 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x4x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x1x20 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x20 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_18 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_19 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_20 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_21 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_22 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_23 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_24 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S320x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S3x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x20 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x20 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S20x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S20x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1024x1024 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S1x1024 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S1024x2048 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S2x1x1024 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 1 → Memref sig .tc .vmem S1024x1024 .f32 := fun | 0 => Memref.whole cc1_stg18_0 | ⟨_ + 1, h⟩ => absurd h (Nat.not_lt.2 (Nat.le_add_left _ _))
abbrev sem1_18 : Fin 1 → DmaSem sig := fun | 0 => cc1_sem18_0 | ⟨_ + 1, h⟩ => absurd h (Nat.not_lt.2 (Nat.le_add_left _ _))
abbrev reads1_18 : Fin grid1.rank → Bool := ![false]

abbrev stage1_19 : Fin 1 → Memref sig .tc .vmem S1x1024 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false]

abbrev stage1_20 : Fin 1 → Memref sig .tc .vmem S1024x1024 .f32 := fun | 0 => Memref.whole cc1_stg20_0 | ⟨_ + 1, h⟩ => absurd h (Nat.not_lt.2 (Nat.le_add_left _ _))
abbrev sem1_20 : Fin 1 → DmaSem sig := fun | 0 => cc1_sem20_0 | ⟨_ + 1, h⟩ => absurd h (Nat.not_lt.2 (Nat.le_add_left _ _))
abbrev reads1_20 : Fin grid1.rank → Bool := ![false]

abbrev stage1_21 : Fin 1 → Memref sig .tc .vmem S1x1024 .f32 := fun | 0 => Memref.whole cc1_stg21_0 | ⟨_ + 1, h⟩ => absurd h (Nat.not_lt.2 (Nat.le_add_left _ _))
abbrev sem1_21 : Fin 1 → DmaSem sig := fun | 0 => cc1_sem21_0 | ⟨_ + 1, h⟩ => absurd h (Nat.not_lt.2 (Nat.le_add_left _ _))
abbrev reads1_21 : Fin grid1.rank → Bool := ![false]

abbrev stage1_22 : Fin 1 → Memref sig .tc .vmem S320x1024 .bf16 := fun | 0 => Memref.whole cc1_stg22_0 | ⟨_ + 1, h⟩ => absurd h (Nat.not_lt.2 (Nat.le_add_left _ _))
abbrev sem1_22 : Fin 1 → DmaSem sig := fun | 0 => cc1_sem22_0 | ⟨_ + 1, h⟩ => absurd h (Nat.not_lt.2 (Nat.le_add_left _ _))
abbrev reads1_22 : Fin grid1.rank → Bool := ![false]

abbrev stage1_23 : Fin 2 → Memref sig .tc .vmem S2x16x1024 .bf16 := fun | 0 => Memref.whole cc1_stg23_0 | 1 => Memref.whole cc1_stg23_1 | ⟨_ + 2, h⟩ => absurd h (Nat.not_lt.2 (Nat.le_add_left _ _))
abbrev sem1_23 : Fin 2 → DmaSem sig := fun | 0 => cc1_sem23_0 | 1 => cc1_sem23_1 | ⟨_ + 2, h⟩ => absurd h (Nat.not_lt.2 (Nat.le_add_left _ _))
abbrev reads1_23 : Fin grid1.rank → Bool := ![true]

abbrev stage1_24 : Fin 2 → Memref sig .tc .vmem S2x16x1024 .bf16 := fun | 0 => Memref.whole cc1_stg24_0 | 1 => Memref.whole cc1_stg24_1 | ⟨_ + 2, h⟩ => absurd h (Nat.not_lt.2 (Nat.le_add_left _ _))
abbrev sem1_24 : Fin 2 → DmaSem sig := fun | 0 => cc1_sem24_0 | 1 => cc1_sem24_1 | ⟨_ + 2, h⟩ => absurd h (Nat.not_lt.2 (Nat.le_add_left _ _))
abbrev reads1_24 : Fin grid1.rank → Bool := ![true]

abbrev grid2 : Pipeline.Grid := ⟨1, ![10], ![false]⟩

def k2_off1 (i : grid2.Coords) : Fin 3 → Nat :=
  let c2_i32 : BitVec 32 := 2#32
  let arg0 : BitVec 32 := BitVec.ofNat 32 (i 0).val
  let v4 : BitVec 32 := Scalar.muli c2_i32 arg0
  let v5 : Index := Scalar.indexCast v4
  let c0_2 : Index := 0#32
  let c0_3 : Index := 0#32
  ![v5.toNat, 0, 0]
def k2_off2 (i : grid2.Coords) : Fin 3 → Nat :=
  let c2_i32_7 : BitVec 32 := 2#32
  let arg0 : BitVec 32 := BitVec.ofNat 32 (i 0).val
  let v12 : BitVec 32 := Scalar.muli c2_i32_7 arg0
  let c1_i32 : BitVec 32 := 1#32
  let v13 : BitVec 32 := Scalar.addi v12 c1_i32
  let v14 : Index := Scalar.indexCast v13
  let c0_8 : Index := 0#32
  let c0_9 : Index := 0#32
  ![v14.toNat, 0, 0]
def k2_cond2 (i : grid2.Coords) : BitVec 1 :=
  let arg0 : BitVec 32 := BitVec.ofNat 32 (i 0).val
  let c9_i32 : BitVec 32 := 9#32
  let v26 : BitVec 1 := Scalar.cmpi .eq arg0 c9_i32
  let v27 : BitVec 32 := Scalar.extui v26
  let c0_i32_15 : BitVec 32 := 0#32
  let v28 : BitVec 1 := Scalar.cmpi .ne v27 c0_i32_15
  v28

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S320x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S320x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S320x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2x1024x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1024 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1024 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1024 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x1024 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1024x20 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x20 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S16x20 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S16x20 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]
-- ==== KernelIdeal.lean ====
variable {F : FTy → Type} [FloatOps F] [Named F]
def κ : String → Option EReal := fun
  | "inv_hw" => some ((50176⁻¹ : ℝ) : EReal)
  | "mask" => some ⊥
  | _ => none
-- ==== ReferenceIdeal.lean ====
abbrev S16x1x224x224 : Shape := ⟨4, ![16, 1, 224, 224]⟩
abbrev S16x20x1x224x224 : Shape := ⟨5, ![16, 20, 1, 224, 224]⟩
abbrev S16x20x4 : Shape := ⟨3, ![16, 20, 4]⟩
abbrev S3x2048 : Shape := ⟨2, ![3, 2048]⟩
abbrev S2048 : Shape := ⟨1, ![2048]⟩
abbrev S2048x1024 : Shape := ⟨2, ![2048, 1024]⟩
abbrev S1024 : Shape := ⟨1, ![1024]⟩
abbrev S40x1024 : Shape := ⟨2, ![40, 1024]⟩
abbrev S1024x20480 : Shape := ⟨2, ![1024, 20480]⟩
abbrev S20480 : Shape := ⟨1, ![20480]⟩
abbrev S20480x1024 : Shape := ⟨2, ![20480, 1024]⟩
abbrev S1024x20 : Shape := ⟨2, ![1024, 20]⟩
abbrev S20 : Shape := ⟨1, ![20]⟩
abbrev S1024x1024 : Shape := ⟨2, ![1024, 1024]⟩
abbrev S16x20x224x224 : Shape := ⟨4, ![16, 20, 224, 224]⟩
abbrev S16x224x224 : Shape := ⟨3, ![16, 224, 224]⟩
abbrev S320x224x224 : Shape := ⟨3, ![320, 224, 224]⟩
abbrev S_ : Shape := ⟨0, ![]⟩
abbrev S320 : Shape := ⟨1, ![320]⟩
abbrev S320x1 : Shape := ⟨2, ![320, 1]⟩
abbrev S320x1x3 : Shape := ⟨3, ![320, 1, 3]⟩
abbrev S320x3 : Shape := ⟨2, ![320, 3]⟩
abbrev S320x2048 : Shape := ⟨2, ![320, 2048]⟩
abbrev S1x2048 : Shape := ⟨2, ![1, 2048]⟩
abbrev S320x1024 : Shape := ⟨2, ![320, 1024]⟩
abbrev S1x1024 : Shape := ⟨2, ![1, 1024]⟩
abbrev S16x20x1024 : Shape := ⟨3, ![16, 20, 1024]⟩
abbrev S16x20 : Shape := ⟨2, ![16, 20]⟩
abbrev S16x20x1 : Shape := ⟨3, ![16, 20, 1]⟩
abbrev S224 : Shape := ⟨1, ![224]⟩
abbrev S1x1x224 : Shape := ⟨3, ![1, 1, 224]⟩
abbrev S16x20x224 : Shape := ⟨3, ![16, 20, 224]⟩
abbrev S16x20x224x1 : Shape := ⟨4, ![16, 20, 224, 1]⟩
abbrev S16x20x1x224 : Shape := ⟨4, ![16, 20, 1, 224]⟩
abbrev S16 : Shape := ⟨1, ![16]⟩
abbrev S16x1 : Shape := ⟨2, ![16, 1]⟩
abbrev S16x20x2 : Shape := ⟨3, ![16, 20, 2]⟩
abbrev S16x40 : Shape := ⟨2, ![16, 40]⟩
abbrev S16x1024 : Shape := ⟨2, ![16, 1024]⟩
abbrev S16x20480 : Shape := ⟨2, ![16, 20480]⟩
abbrev S1x20480 : Shape := ⟨2, ![1, 20480]⟩
abbrev S1x1x1024 : Shape := ⟨3, ![1, 1, 1024]⟩
abbrev S16x20x4x256 : Shape := ⟨4, ![16, 20, 4, 256]⟩
abbrev S16x4x20x256 : Shape := ⟨4, ![16, 4, 20, 256]⟩
abbrev S16x4x20x20 : Shape := ⟨4, ![16, 4, 20, 20]⟩
abbrev S16x4x20 : Shape := ⟨3, ![16, 4, 20]⟩
abbrev S16x4x20x1 : Shape := ⟨4, ![16, 4, 20, 1]⟩
abbrev S1x20 : Shape := ⟨2, ![1, 20]⟩

abbrev nBuf : Space → Nat
  | .hbm => 229
  | .vmem => 0
  | .smem => 0
  | _ => 0

abbrev hbmTy0_0 (i : Nat) : BufTy := match i % 128 with
  | 0 => ⟨S16x1x224x224, .f32⟩
  | 1 => ⟨S16x1x224x224, .f32⟩
  | 2 => ⟨S16x20x1x224x224, .f32⟩
  | 3 => ⟨S16x20x4, .f32⟩
  | 4 => ⟨S3x2048, .f32⟩
  | 5 => ⟨S2048, .f32⟩
  | 6 => ⟨S2048x1024, .f32⟩
  | 7 => ⟨S1024, .f32⟩
  | 8 => ⟨S40x1024, .f32⟩
  | 9 => ⟨S1024, .f32⟩
  | 10 => ⟨S1024, .f32⟩
  | 11 => ⟨S1024, .f32⟩
  | 12 => ⟨S1024, .f32⟩
  | 13 => ⟨S1024, .f32⟩
  | 14 => ⟨S1024x20480, .f32⟩
  | 15 => ⟨S20480, .f32⟩
  | 16 => ⟨S20480x1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1024x20, .f32⟩
  | 23 => ⟨S20, .f32⟩
  | 24 => ⟨S1024x1024, .f32⟩
  | 25 => ⟨S1024, .f32⟩
  | 26 => ⟨S1024x1024, .f32⟩
  | 27 => ⟨S1024, .f32⟩
  | 28 => ⟨S1024x1024, .f32⟩
  | 29 => ⟨S1024, .f32⟩
  | 30 => ⟨S1024x1024, .f32⟩
  | 31 => ⟨S1024, .f32⟩
  | 32 => ⟨S16x20x224x224, .f32⟩
  | 33 => ⟨S16x224x224, .f32⟩
  | 34 => ⟨S320x224x224, .f32⟩
  | 35 => ⟨S_, .f32⟩
  | 36 => ⟨S320, .f32⟩
  | 37 => ⟨S_, .f32⟩
  | 38 => ⟨S320, .f32⟩
  | 39 => ⟨S320, .f32⟩
  | 40 => ⟨S320x1, .f32⟩
  | 41 => ⟨S320x1x3, .f32⟩
  | 42 => ⟨S320x3, .f32⟩
  | 43 => ⟨S320x2048, .f32⟩
  | 44 => ⟨S1x2048, .f32⟩
  | 45 => ⟨S320x2048, .f32⟩
  | 46 => ⟨S320x2048, .f32⟩
  | 47 => ⟨S_, .f32⟩
  | 48 => ⟨S320x2048, .f32⟩
  | 49 => ⟨S320x2048, .f32⟩
  | 50 => ⟨S320x1024, .f32⟩
  | 51 => ⟨S1x1024, .f32⟩
  | 52 => ⟨S320x1024, .f32⟩
  | 53 => ⟨S320x1024, .f32⟩
  | 54 => ⟨S16x20x1024, .f32⟩
  | 55 => ⟨S16x20, .f32⟩
  | 56 => ⟨S16x20x1, .f32⟩
  | 57 => ⟨S16x20, .f32⟩
  | 58 => ⟨S16x20, .f32⟩
  | 59 => ⟨S16x20x1, .f32⟩
  | 60 => ⟨S16x20, .f32⟩
  | 61 => ⟨S16x20, .f32⟩
  | 62 => ⟨S16x20x1, .f32⟩
  | 63 => ⟨S16x20, .f32⟩
  | 64 => ⟨S16x20, .f32⟩
  | 65 => ⟨S16x20x1, .f32⟩
  | 66 => ⟨S16x20, .f32⟩
  | 67 => ⟨S16x20, .f32⟩
  | 68 => ⟨S224, .f32⟩
  | 69 => ⟨S224, .f32⟩
  | 70 => ⟨S16x20x1, .f32⟩
  | 71 => ⟨S1x1x224, .f32⟩
  | 72 => ⟨S16x20x224, .f32⟩
  | 73 => ⟨S16x20x224, .f32⟩
  | 74 => ⟨S16x20x224, .i1⟩
  | 75 => ⟨S16x20x1, .f32⟩
  | 76 => ⟨S1x1x224, .f32⟩
  | 77 => ⟨S16x20x224, .f32⟩
  | 78 => ⟨S16x20x224, .f32⟩
  | 79 => ⟨S16x20x224, .i1⟩
  | 80 => ⟨S16x20x224, .i1⟩
  | 81 => ⟨S16x20x1, .f32⟩
  | 82 => ⟨S1x1x224, .f32⟩
  | 83 => ⟨S16x20x224, .f32⟩
  | 84 => ⟨S16x20x224, .f32⟩
  | 85 => ⟨S16x20x224, .i1⟩
  | 86 => ⟨S16x20x1, .f32⟩
  | 87 => ⟨S1x1x224, .f32⟩
  | 88 => ⟨S16x20x224, .f32⟩
  | 89 => ⟨S16x20x224, .f32⟩
  | 90 => ⟨S16x20x224, .i1⟩
  | 91 => ⟨S16x20x224, .i1⟩
  | 92 => ⟨S16x20x224x1, .i1⟩
  | 93 => ⟨S16x20x1x224, .i1⟩
  | 94 => ⟨S16x20x224x224, .i1⟩
  | 95 => ⟨S16x20x224x224, .i1⟩
  | 96 => ⟨S16x20x224x224, .i1⟩
  | 97 => ⟨S16x20x224x224, .f32⟩
  | 98 => ⟨S16x20, .f32⟩
  | 99 => ⟨S16x20x224, .i32⟩
  | 100 => ⟨S_, .i32⟩
  | 101 => ⟨S16x20, .i32⟩
  | 102 => ⟨S16x20, .f32⟩
  | 103 => ⟨S16x20x224, .i32⟩
  | 104 => ⟨S_, .i32⟩
  | 105 => ⟨S16x20, .i32⟩
  | 106 => ⟨S16x20, .f32⟩
  | 107 => ⟨S16x20, .f32⟩
  | 108 => ⟨S_, .f32⟩
  | 109 => ⟨S16, .f32⟩
  | 110 => ⟨S16x1, .f32⟩
  | 111 => ⟨S16x20, .f32⟩
  | 112 => ⟨S16x20, .f32⟩
  | 113 => ⟨S16x20, .f32⟩
  | 114 => ⟨S_, .f32⟩
  | 115 => ⟨S16x20, .f32⟩
  | 116 => ⟨S16x20, .f32⟩
  | 117 => ⟨S16x20, .f32⟩
  | 118 => ⟨S16x20x1, .f32⟩
  | 119 => ⟨S16x20x1, .f32⟩
  | 120 => ⟨S16x20x2, .f32⟩
  | 121 => ⟨S16x40, .f32⟩
  | 122 => ⟨S16x1024, .f32⟩
  | 123 => ⟨S1x1024, .f32⟩
  | 124 => ⟨S16x1024, .f32⟩
  | 125 => ⟨S16x1024, .f32⟩
  | 126 => ⟨S1x1024, .f32⟩
  | 127 => ⟨S16x1024, .f32⟩
  | _ => ⟨S16x1x224x224, .f32⟩

abbrev hbmTy0_1 (i : Nat) : BufTy := match i % 128 with
  | 0 => ⟨S16x1024, .f32⟩
  | 1 => ⟨S_, .f32⟩
  | 2 => ⟨S1024, .f32⟩
  | 3 => ⟨S1024, .f32⟩
  | 4 => ⟨S1024, .f32⟩
  | 5 => ⟨S1x1024, .f32⟩
  | 6 => ⟨S16x1024, .f32⟩
  | 7 => ⟨S16x1024, .f32⟩
  | 8 => ⟨S1x1024, .f32⟩
  | 9 => ⟨S16x1024, .f32⟩
  | 10 => ⟨S16x1024, .f32⟩
  | 11 => ⟨S1x1024, .f32⟩
  | 12 => ⟨S16x1024, .f32⟩
  | 13 => ⟨S16x1024, .f32⟩
  | 14 => ⟨S_, .f32⟩
  | 15 => ⟨S16x1024, .f32⟩
  | 16 => ⟨S16x1024, .f32⟩
  | 17 => ⟨S16x20480, .f32⟩
  | 18 => ⟨S1x20480, .f32⟩
  | 19 => ⟨S16x20480, .f32⟩
  | 20 => ⟨S16x20480, .f32⟩
  | 21 => ⟨S16x20x1024, .f32⟩
  | 22 => ⟨S16x20x1024, .f32⟩
  | 23 => ⟨S1x1x1024, .f32⟩
  | 24 => ⟨S16x20x1024, .f32⟩
  | 25 => ⟨S16x20x1024, .f32⟩
  | 26 => ⟨S16x20x4x256, .f32⟩
  | 27 => ⟨S16x4x20x256, .f32⟩
  | 28 => ⟨S16x20x1024, .f32⟩
  | 29 => ⟨S1x1x1024, .f32⟩
  | 30 => ⟨S16x20x1024, .f32⟩
  | 31 => ⟨S16x20x1024, .f32⟩
  | 32 => ⟨S16x20x4x256, .f32⟩
  | 33 => ⟨S16x4x20x256, .f32⟩
  | 34 => ⟨S16x20x1024, .f32⟩
  | 35 => ⟨S1x1x1024, .f32⟩
  | 36 => ⟨S16x20x1024, .f32⟩
  | 37 => ⟨S16x20x1024, .f32⟩
  | 38 => ⟨S16x20x4x256, .f32⟩
  | 39 => ⟨S16x4x20x256, .f32⟩
  | 40 => ⟨S16x4x20x20, .f32⟩
  | 41 => ⟨S_, .f32⟩
  | 42 => ⟨S16x4x20x20, .f32⟩
  | 43 => ⟨S16x4x20x20, .f32⟩
  | 44 => ⟨S_, .f32⟩
  | 45 => ⟨S16x4x20, .f32⟩
  | 46 => ⟨S_, .f32⟩
  | 47 => ⟨S16x4x20, .f32⟩
  | 48 => ⟨S16x4x20, .f32⟩
  | 49 => ⟨S16x4x20x1, .f32⟩
  | 50 => ⟨S16x4x20x20, .f32⟩
  | 51 => ⟨S16x4x20x20, .f32⟩
  | 52 => ⟨S16x4x20x20, .f32⟩
  | 53 => ⟨S_, .f32⟩
  | 54 => ⟨S16x4x20, .f32⟩
  | 55 => ⟨S16x4x20x1, .f32⟩
  | 56 => ⟨S16x4x20x20, .f32⟩
  | 57 => ⟨S16x4x20x20, .f32⟩
  | 58 => ⟨S16x4x20x256, .f32⟩
  | 59 => ⟨S16x20x4x256, .f32⟩
  | 60 => ⟨S16x20x1024, .f32⟩
  | 61 => ⟨S16x20x1024, .f32⟩
  | 62 => ⟨S1x1x1024, .f32⟩
  | 63 => ⟨S16x20x1024, .f32⟩
  | 64 => ⟨S16x20x1024, .f32⟩
  | 65 => ⟨S16x20480, .f32⟩
  | 66 => ⟨S16x1024, .f32⟩
  | 67 => ⟨S1x1024, .f32⟩
  | 68 => ⟨S16x1024, .f32⟩
  | 69 => ⟨S16x1024, .f32⟩
  | 70 => ⟨S1x1024, .f32⟩
  | 71 => ⟨S16x1024, .f32⟩
  | 72 => ⟨S16x1024, .f32⟩
  | 73 => ⟨S_, .f32⟩
  | 74 => ⟨S1024, .f32⟩
  | 75 => ⟨S1024, .f32⟩
  | 76 => ⟨S1024, .f32⟩
  | 77 => ⟨S1x1024, .f32⟩
  | 78 => ⟨S16x1024, .f32⟩
  | 79 => ⟨S16x1024, .f32⟩
  | 80 => ⟨S1x1024, .f32⟩
  | 81 => ⟨S16x1024, .f32⟩
  | 82 => ⟨S16x1024, .f32⟩
  | 83 => ⟨S1x1024, .f32⟩
  | 84 => ⟨S16x1024, .f32⟩
  | 85 => ⟨S16x1024, .f32⟩
  | 86 => ⟨S_, .f32⟩
  | 87 => ⟨S16x1024, .f32⟩
  | 88 => ⟨S16x1024, .f32⟩
  | 89 => ⟨S16x20, .f32⟩
  | 90 => ⟨S1x20, .f32⟩
  | 91 => ⟨S16x20, .f32⟩
  | 92 => ⟨S16x20, .f32⟩
  | 93 => ⟨S_, .f32⟩
  | 94 => ⟨S16x20, .f32⟩
  | 95 => ⟨S_, .f32⟩
  | 96 => ⟨S16x20, .f32⟩
  | 97 => ⟨S16x20, .i1⟩
  | 98 => ⟨S_, .f32⟩
  | 99 => ⟨S16x20, .f32⟩
  | 100 => ⟨S16x20, .f32⟩
  | _ => ⟨S16x1x224x224, .f32⟩

abbrev hbmTy (i : Nat) : BufTy := match i / 128 with
  | 0 => hbmTy0_0 i
  | 1 => hbmTy0_1 i
  | _ => ⟨S16x1x224x224, .f32⟩

abbrev bufTy : (tb : Table) → Fin (tcTables nBuf tb) → BufTy
  | .hbm, ⟨i, _⟩ => hbmTy i
  | _, _ => ⟨S16x1x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_cst : Ref sig .tc := ⟨.hbm, 35, rfl⟩
abbrev main_v3 : Ref sig .tc := ⟨.hbm, 36, rfl⟩
abbrev main_cst_0 : Ref sig .tc := ⟨.hbm, 37, rfl⟩
abbrev main_v4 : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_call0_cst : Ref sig .tc := ⟨.hbm, 47, rfl⟩
abbrev main_call0_v0 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_c_1 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_2 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_3 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_4 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_call1_cst : Ref sig .tc := ⟨.hbm, 142, rfl⟩
abbrev main_call1_v0 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_cst_5 : Ref sig .tc := ⟨.hbm, 169, rfl⟩
abbrev main_v126 : Ref sig .tc := ⟨.hbm, 170, rfl⟩
abbrev main_v127 : Ref sig .tc := ⟨.hbm, 171, rfl⟩
abbrev main_cst_6 : Ref sig .tc := ⟨.hbm, 172, rfl⟩
abbrev main_v128 : Ref sig .tc := ⟨.hbm, 173, rfl⟩
abbrev main_cst_7 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_cst_8 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_cst_9 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_call2_cst : Ref sig .tc := ⟨.hbm, 214, rfl⟩
abbrev main_call2_v0 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_cst_10 : Ref sig .tc := ⟨.hbm, 221, rfl⟩
abbrev main_v171 : Ref sig .tc := ⟨.hbm, 222, rfl⟩
abbrev main_cst_11 : Ref sig .tc := ⟨.hbm, 223, rfl⟩
abbrev main_v172 : Ref sig .tc := ⟨.hbm, 224, rfl⟩
abbrev main_v173 : Ref sig .tc := ⟨.hbm, 225, rfl⟩
abbrev main_cst_12 : Ref sig .tc := ⟨.hbm, 226, rfl⟩
abbrev main_call3_v0 : Ref sig .tc := ⟨.hbm, 227, rfl⟩
abbrev main_v174 : Ref sig .tc := ⟨.hbm, 228, rfl⟩

abbrev nD : Nat := 1
abbrev τ : Topo := Topo.v7x

variable {F : FTy → Type} [FloatOps F]
-- ==== Proof.Call0KernelIdeal.lean ====
/- The first call (the mask pass): what its body leaves in each output block, and its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev m0_0 : Rect S2x20x224x224 := (Rect.unit (s := S2x20x224x224) ![0, 0, 0, 0] S1x20x224x224.size inb_S2x20x224x224_S1x20x224x224_0_0_0_0)
abbrev m0_1 : Rect S2x20x224x224 := (Rect.unit (s := S2x20x224x224) ![1, 0, 0, 0] S1x20x224x224.size inb_S2x20x224x224_S1x20x224x224_1_0_0_0)
abbrev t0_0 : Rect S2x224x224 := (Rect.unit (s := S2x224x224) ![0, 0, 0] S1x224x224.size inb_S2x224x224_S1x224x224_0_0_0)
abbrev t0_1 : Rect S2x224x224 := (Rect.unit (s := S2x224x224) ![1, 0, 0] S1x224x224.size inb_S2x224x224_S1x224x224_1_0_0)
abbrev b0_0 : Rect S2x4x20 := (Rect.unit (s := S2x4x20) ![0, 0, 0] S1x4x20.size inb_S2x4x20_S1x4x20_0_0_0)
abbrev b0_1 : Rect S2x4x20 := (Rect.unit (s := S2x4x20) ![1, 0, 0] S1x4x20.size inb_S2x4x20_S1x4x20_1_0_0)
abbrev o0_0 : Rect S2x1x20 := (Rect.unit (s := S2x1x20) ![0, 0, 0] S1x1x20.size inb_S2x1x20_S1x1x20_0_0_0)
abbrev o0_1 : Rect S2x1x20 := (Rect.unit (s := S2x1x20) ![1, 0, 0] S1x1x20.size inb_S2x1x20_S1x1x20_1_0_0)

/-- The block of object sums: the second batch row's store, then the first's. -/
def osum (x0 : Vec F S2x20x224x224 .f32) (x1 : Vec F S2x224x224 .f32) (x2 : Vec F S2x4x20 .f32) : Vec F S2x1x20 .f32 :=
  View.canon [⟨o0_1, k0_pay1 (k0_pay17 (k0_pay14 (View.ld x0 m0_1)))⟩, ⟨o0_0, k0_pay11 (k0_pay7 (View.ld x0 m0_0))⟩]

/-- The block of overlaps. -/
def ovl (x0 : Vec F S2x20x224x224 .f32) (x1 : Vec F S2x224x224 .f32) (x2 : Vec F S2x4x20 .f32) : Vec F S2x1x20 .f32 :=
  View.canon [⟨o0_1, k0_pay2 (k0_pay18 (k0_pay14 (View.ld x0 m0_1)) (k0_pay15 (View.ld x1 t0_1)))⟩,
    ⟨o0_0, k0_pay12 (k0_pay8 (View.ld x0 m0_0) (View.ld x1 t0_0))⟩]

/-- The block of box overlaps. -/
def iouv (x0 : Vec F S2x20x224x224 .f32) (x1 : Vec F S2x224x224 .f32) (x2 : Vec F S2x4x20 .f32) : Vec F S2x1x20 .f32 :=
  View.canon [⟨o0_1, k0_pay3 (k0_pay15 (View.ld x1 t0_1)) (k0_pay21 (k0_pay15 (View.ld x1 t0_1)) (View.ld x2 b0_1)) (k0_pay22 (View.ld x2 b0_1))⟩,
    ⟨o0_0, k0_pay13 (k0_pay5 (View.ld x1 t0_0)) (k0_pay9 (View.ld x2 b0_0)) (k0_pay10 (View.ld x2 b0_0)) (Scalar.ofBits .f32 0x3F800000#32)⟩]

theorem cover0 (p0 : Vec F S1x1x20 .f32) (p1 : Vec F S1x1x20 .f32) (y : S2x1x20.Idx) :
    ∃ pc ∈ ([⟨o0_1, p0⟩, ⟨o0_0, p1⟩] : List (View.Piece (Elt F) S2x1x20 .f32)), y ∈ pc.1.set :=
  View.cover_of_tiled [⟨o0_1, p0⟩, ⟨o0_0, p1⟩] S1x1x20.size (by rfl) y

set_option maxHeartbeats 2000000 in
/-- The mask kernel on whole buffers, its inputs at `x0 x1 x2`: it returns with the inputs as they were and
    each output at what its two stores leave. -/
theorem sound0 (c : Dev nD) (E : Set ℕ) (i : grid0.Coords) (arg1 : Memref sig .tc .vmem S2x20x224x224 .f32) (harg1 : arg1.IsWhole) (arg2 : Memref sig .tc .vmem S2x224x224 .f32) (harg2 : arg2.IsWhole) (arg3 : Memref sig .tc .vmem S2x4x20 .f32) (harg3 : arg3.IsWhole) (arg4 : Memref sig .tc .vmem S2x1x20 .f32) (harg4 : arg4.IsWhole) (arg5 : Memref sig .tc .vmem S2x1x20 .f32) (harg5 : arg5.IsWhole) (arg6 : Memref sig .tc .vmem S2x1x20 .f32) (harg6 : arg6.IsWhole)
     (x0 : Vec F S2x20x224x224 .f32) (x1 : Vec F S2x224x224 .f32) (x2 : Vec F S2x4x20 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (osum x0 x1 x2) ∗ owns (c : Thread nD τ) arg5 fullShare (ovl x0 x1 x2) ∗ owns (c : Thread nD τ) arg6 fullShare (iouv x0 x1 x2)) -∗ K ⟨⟩))
      ⊢ wp frame (wpE (defs₀ (F := F)) Variants.none c none) E (cc0_mask_pass i arg1 harg1 arg2 harg2 arg3 harg3 arg4 harg4 arg5 harg5 arg6 harg6) K := by
  simp only [cc0_mask_pass_eq_skeleton]; unfold cc0_mask_pass_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0 _ _)).trans ?_
    rfl
  isplitl [H4]
  · iexists _; isplitr
    swap; · iexact H4
    ipureintro
    refine (View.read_writes_eq_canon _ _ _ (cover0 _ _)).trans ?_
    rfl
  iexists _; isplitr
  swap; · iexact H5
  ipureintro
  refine (View.read_writes_eq_canon _ _ _ (cover0 _ _)).trans ?_
  rfl

/-! ## The blocks the call stages -/

section
variable (V : (c : Dev nD) → (b : Ref sig .tc) → Buf (Elt F) ((c : Thread nD τ).loc b))

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The call's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => osum (iblk0 V c 0 t) (iblk0 V c 1 t) (iblk0 V c 2 t)
    | ⟨4, _⟩ => ovl (iblk0 V c 0 t) (iblk0 V c 1 t) (iblk0 V c 2 t)
    | ⟨5, _⟩ => iouv (iblk0 V c 0 t) (iblk0 V c 1 t) (iblk0 V c 2 t)
  Φ n := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = osum (iblk0 V c 0 t) (iblk0 V c 1 t) (iblk0 V c 2 t) := by dsimp only [dat0]
theorem after0_4 (c : Dev nD) (t : Fin cfg0.N) : (dat0 V c).after 4 t = ovl (iblk0 V c 0 t) (iblk0 V c 1 t) (iblk0 V c 2 t) := by dsimp only [dat0]
theorem after0_5 (c : Dev nD) (t : Fin cfg0.N) : (dat0 V c).after 5 t = iouv (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound0 c Set.univ (grid0.coords t) _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end

end Cert.KernelIdeal.Calls

end
-- ==== Proof.Call1KernelIdeal.lean ====
/- The second call (the front pass): what its body leaves in each output block and in its scratch, and its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev kv_lo : Rect S2x16x1024 := (Rect.unit (s := S2x16x1024) ![0, 0, 0] S1x16x1024.size inb_S2x16x1024_S1x16x1024_0_0_0)
abbrev kv_hi : Rect S2x16x1024 := (Rect.unit (s := S2x16x1024) ![1, 0, 0] S1x16x1024.size inb_S2x16x1024_S1x16x1024_1_0_0)
abbrev q_all : Rect S320x1024 := (Rect.unit (s := S320x1024) ![0, 0] S320x1024.size inb_S320x1024_S320x1024_0_0)
abbrev r_all : Rect S16x1024 := (Rect.unit (s := S16x1024) ![0, 0] S16x1024.size inb_S16x1024_S16x1024_0_0)

/-- The query block. -/
def qblk (x0 : Vec F S320x1 .f32) (x1 : Vec F S3x2048 .f32) (x2 : Vec F S1x2048 .f32) (x3 : Vec F S2048x1024 .f32) (x4 : Vec F S1x1024 .f32) (x14 : Vec F S1024x1024 .f32) (x15 : Vec F S1x1024 .f32) : Vec F S320x1024 .bf16 :=
  View.canon [⟨q_all, k1_pay5 (View.ld x0 (Rect.unit (s := S320x1) ![0, 0] S320x1.size inb_S320x1_S320x1_0_0)) (View.ld x1 (Rect.unit (s := S3x2048) ![0, 0] S3x2048.size inb_S3x2048_S3x2048_0_0)) (View.ld x2 (Rect.unit (s := S1x2048) ![0, 0] S1x2048.size inb_S1x2048_S1x2048_0_0)) (View.ld x3 (Rect.unit (s := S2048x1024) ![0, 0] S2048x1024.size inb_S2048x1024_S2048x1024_0_0)) (View.ld x4 (Rect.unit (s := S1x1024) ![0, 0] S1x1024.size inb_S1x1024_S1x1024_0_0)) (View.ld x14 (Rect.unit (s := S1024x1024) ![0, 0] S1024x1024.size inb_S1024x1024_S1024x1024_0_0)) (View.ld x15 (Rect.unit (s := S1x1024) ![0, 0] S1x1024.size inb_S1x1024_S1x1024_0_0))⟩]

/-- The scratch: the relation vector of each batch row. -/
def rblk (x5 : Vec F S16x20 .f32) (x7 : Vec F S20x1024 .f32) (x6 : Vec F S16x20 .f32) (x8 : Vec F S20x1024 .f32) (x9 : Vec F S1x1024 .f32) (x12 : Vec F S1x1024 .f32) (x13 : Vec F S1x1024 .f32) (x10 : Vec F S1x1024 .f32) (x11 : Vec F S1x1024 .f32) : Vec F S16x1024 .bf16 :=
  View.canon [⟨r_all, k1_pay7 (k1_pay6 (View.ld x5 (Rect.unit (s := S16x20) ![0, 0] S16x20.size inb_S16x20_S16x20_0_0)) (View.ld x7 (Rect.unit (s := S20x1024) ![0, 0] S20x1024.size inb_S20x1024_S20x1024_0_0)) (View.ld x6 (Rect.unit (s := S16x20) ![0, 0] S16x20.size inb_S16x20_S16x20_0_0)) (View.ld x8 (Rect.unit (s := S20x1024) ![0, 0] S20x1024.size inb_S20x1024_S20x1024_0_0)) (View.ld x9 (Rect.unit (s := S1x1024) ![0, 0] S1x1024.size inb_S1x1024_S1x1024_0_0)) (View.ld x12 (Rect.unit (s := S1x1024) ![0, 0] S1x1024.size inb_S1x1024_S1x1024_0_0)) (View.ld x13 (Rect.unit (s := S1x1024) ![0, 0] S1x1024.size inb_S1x1024_S1x1024_0_0)) (View.ld x10 (Rect.unit (s := S1x1024) ![0, 0] S1x1024.size inb_S1x1024_S1x1024_0_0)) (View.ld x11 (Rect.unit (s := S1x1024) ![0, 0] S1x1024.size inb_S1x1024_S1x1024_0_0))) (Scalar.ofBits .f32 0x00000000#32)⟩]

/-- The two blocks of keys of a point. -/
def kblk (xr : Vec F S16x1024 .bf16) (x16 : Vec F S1024x2048 .f32) (x17 : Vec F S2x1x1024 .f32) (x18 : Vec F S1024x1024 .f32) (x19 : Vec F S1x1024 .f32) : Vec F S2x16x1024 .bf16 :=
  View.canon [⟨kv_hi, k1_pay3 (View.ld xr (Rect.unit (s := S16x1024) ![0, 0] S16x1024.size inb_S16x1024_S16x1024_0_0)) (k1_pay8 (View.ld x18 (Rect.unit (s := S1024x1024) ![0, 0] S1024x1024.size inb_S1024x1024_S1024x1024_0_0))) (View.ld x16 (Rect.unit (s := S1024x2048) ![0, 1024] S1024x1024.size inb_S1024x2048_S1024x1024_0_1024)) (View.ld x17 (Rect.unit (s := S2x1x1024) ![1, 0, 0] S1x1x1024.size inb_S2x1x1024_S1x1x1024_1_0_0)) (View.ld x19 (Rect.unit (s := S1x1024) ![0, 0] S1x1024.size inb_S1x1024_S1x1024_0_0))⟩,
    ⟨kv_lo, k1_pay11 (View.ld xr (Rect.unit (s := S16x1024) ![0, 0] S16x1024.size inb_S16x1024_S16x1024_0_0)) (View.ld x18 (Rect.unit (s := S1024x1024) ![0, 0] S1024x1024.size inb_S1024x1024_S1024x1024_0_0)) (View.ld x16 (Rect.unit (s := S1024x2048) ![0, 0] S1024x1024.size inb_S1024x2048_S1024x1024_0_0)) (View.ld x17 (Rect.unit (s := S2x1x1024) ![0, 0, 0] S1x1x1024.size inb_S2x1x1024_S1x1x1024_0_0_0)) (View.ld x19 (Rect.unit (s := S1x1024) ![0, 0] S1x1024.size inb_S1x1024_S1x1024_0_0))⟩]

/-- The two blocks of values of a point. -/
def vblk (xr : Vec F S16x1024 .bf16) (x16 : Vec F S1024x2048 .f32) (x17 : Vec F S2x1x1024 .f32) (x20 : Vec F S1024x1024 .f32) (x21 : Vec F S1x1024 .f32) : Vec F S2x16x1024 .bf16 :=
  View.canon [⟨kv_hi, k1_pay4 (View.ld xr (Rect.unit (s := S16x1024) ![0, 0] S16x1024.size inb_S16x1024_S16x1024_0_0)) (k1_pay9 (View.ld x20 (Rect.unit (s := S1024x1024) ![0, 0] S1024x1024.size inb_S1024x1024_S1024x1024_0_0))) (View.ld x16 (Rect.unit (s := S1024x2048) ![0, 1024] S1024x1024.size inb_S1024x2048_S1024x1024_0_1024)) (View.ld x17 (Rect.unit (s := S2x1x1024) ![1, 0, 0] S1x1x1024.size inb_S2x1x1024_S1x1x1024_1_0_0)) (View.ld x21 (Rect.unit (s := S1x1024) ![0, 0] S1x1024.size inb_S1x1024_S1x1024_0_0))⟩,
    ⟨kv_lo, k1_pay1 (k1_pay12 (View.ld xr (Rect.unit (s := S16x1024) ![0, 0] S16x1024.size inb_S16x1024_S16x1024_0_0)) (View.ld x20 (Rect.unit (s := S1024x1024) ![0, 0] S1024x1024.size inb_S1024x1024_S1024x1024_0_0)) (View.ld x16 (Rect.unit (s := S1024x2048) ![0, 0] S1024x1024.size inb_S1024x2048_S1024x1024_0_0)) (View.ld x17 (Rect.unit (s := S2x1x1024) ![0, 0, 0] S1x1x1024.size inb_S2x1x1024_S1x1x1024_0_0_0)) (View.ld x21 (Rect.unit (s := S1x1024) ![0, 0] S1x1024.size inb_S1x1024_S1x1024_0_0)))⟩]

theorem cover1q (p0 : Vec F S320x1024 .bf16) (y : S320x1024.Idx) :
    ∃ pc ∈ ([⟨q_all, p0⟩] : List (View.Piece (Elt F) S320x1024 .bf16)), y ∈ pc.1.set :=
  View.cover_of_tiled [⟨q_all, p0⟩] S320x1024.size (by rfl) y

theorem cover1r (p0 : Vec F S16x1024 .bf16) (y : S16x1024.Idx) :
    ∃ pc ∈ ([⟨r_all, p0⟩] : List (View.Piece (Elt F) S16x1024 .bf16)), y ∈ pc.1.set :=
  View.cover_of_tiled [⟨r_all, p0⟩] S16x1024.size (by rfl) y

theorem cover1kv (p0 : Vec F S1x16x1024 .bf16) (p1 : Vec F S1x16x1024 .bf16) (y : S2x16x1024.Idx) :
    ∃ pc ∈ ([⟨kv_hi, p0⟩, ⟨kv_lo, p1⟩] : List (View.Piece (Elt F) S2x16x1024 .bf16)), y ∈ pc.1.set :=
  View.cover_of_tiled [⟨kv_hi, p0⟩, ⟨kv_lo, p1⟩] S1x16x1024.size (by rfl) y

set_option maxHeartbeats 2000000 in
/-- The front kernel at the first point: it fills the query block and the scratch, then the point's two
    blocks of keys and values. -/
theorem sound1A (c : Dev nD) (E : Set ℕ) (i : grid1.Coords) (arg1 : Memref sig .tc .vmem S320x1 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S2048x1024 .f32) (harg4 : arg4.IsWhole) (arg5 : Memref sig .tc .vmem S1x1024 .f32) (harg5 : arg5.IsWhole) (arg6 : Memref sig .tc .vmem S16x20 .f32) (harg6 : arg6.IsWhole) (arg7 : Memref sig .tc .vmem S16x20 .f32) (harg7 : arg7.IsWhole) (arg8 : Memref sig .tc .vmem S20x1024 .f32) (harg8 : arg8.IsWhole) (arg9 : Memref sig .tc .vmem S20x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x2048 .f32) (harg17 : arg17.IsWhole) (arg18 : Memref sig .tc .vmem S2x1x1024 .f32) (harg18 : arg18.IsWhole) (arg19 : Memref sig .tc .vmem S1024x1024 .f32) (harg19 : arg19.IsWhole) (arg20 : Memref sig .tc .vmem S1x1024 .f32) (harg20 : arg20.IsWhole) (arg21 : Memref sig .tc .vmem S1024x1024 .f32) (harg21 : arg21.IsWhole) (arg22 : Memref sig .tc .vmem S1x1024 .f32) (harg22 : arg22.IsWhole) (arg23 : Memref sig .tc .vmem S320x1024 .bf16) (harg23 : arg23.IsWhole) (arg24 : Memref sig .tc .vmem S2x16x1024 .bf16) (harg24 : arg24.IsWhole) (arg25 : Memref sig .tc .vmem S2x16x1024 .bf16) (harg25 : arg25.IsWhole) (arg26 : Memref sig .tc .vmem S16x1024 .bf16) (harg26 : arg26.IsWhole)
    (hc0 : k1_cond1 i = 1#1) (x0 : Vec F S320x1 .f32) (x1 : Vec F S3x2048 .f32) (x2 : Vec F S1x2048 .f32) (x3 : Vec F S2048x1024 .f32) (x4 : Vec F S1x1024 .f32) (x5 : Vec F S16x20 .f32) (x6 : Vec F S16x20 .f32) (x7 : Vec F S20x1024 .f32) (x8 : Vec F S20x1024 .f32) (x9 : Vec F S1x1024 .f32) (x10 : Vec F S1x1024 .f32) (x11 : Vec F S1x1024 .f32) (x12 : Vec F S1x1024 .f32) (x13 : Vec F S1x1024 .f32) (x14 : Vec F S1024x1024 .f32) (x15 : Vec F S1x1024 .f32) (x16 : Vec F S1024x2048 .f32) (x17 : Vec F S2x1x1024 .f32) (x18 : Vec F S1024x1024 .f32) (x19 : Vec F S1x1024 .f32) (x20 : Vec F S1024x1024 .f32) (x21 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare (qblk x0 x1 x2 x3 x4 x14 x15) ∗ owns (c : Thread nD τ) arg24 fullShare (kblk (rblk x5 x7 x6 x8 x9 x12 x13 x10 x11) x16 x17 x18 x19) ∗ owns (c : Thread nD τ) arg25 fullShare (vblk (rblk x5 x7 x6 x8 x9 x12 x13 x10 x11) x16 x17 x20 x21) ∗ owns (c : Thread nD τ) arg26 fullShare (rblk x5 x7 x6 x8 x9 x12 x13 x10 x11)) -∗ K ⟨⟩))
      ⊢ wp frame (wpE (defs₀ (F := F)) Variants.none c none) E (cc1_frontkv_pass i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc1_frontkv_pass_eq_skeleton]; unfold cc1_frontkv_pass_skel
  simp only [k1_part3_eq_skeleton]; unfold k1_part3_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%d23, %f23, -, H23⟩, ⟨%d24, %f24, -, H24⟩, ⟨%d25, %f25, -, H25⟩, Hk⟩
  subst hf0
  subst hf1
  subst hf2
  subst hf3
  subst hf4
  subst hf5
  subst hf6
  subst hf7
  subst hf8
  subst hf9
  subst hf10
  subst hf11
  subst hf12
  subst hf13
  subst hf14
  subst hf15
  subst hf16
  subst hf17
  subst hf18
  subst hf19
  subst hf20
  subst hf21
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists _; isplitr
    swap; · iexact H22
    ipureintro
    refine (View.read_writes_eq_canon _ _ _ (cover1q _)).trans ?_
    rfl
  isplitl [H23]
  · iexists _; isplitr
    swap; · iexact H23
    ipureintro
    refine (View.read_writes_eq_canon _ _ _ (cover1kv _ _)).trans ?_
    dsimp only
    unfold sound1A.sl.v3 sound1A.sl.H25_1
    dsimp only
    rw [View.readCov_eq_canon_ld _ _ _ (cover1r _)]
    rfl
  isplitl [H24]
  · iexists _; isplitr
    swap; · iexact H24
    ipureintro
    refine (View.read_writes_eq_canon _ _ _ (cover1kv _ _)).trans ?_
    dsimp only
    unfold sound1A.sl.v3 sound1A.sl.H25_1
    dsimp only
    rw [View.readCov_eq_canon_ld _ _ _ (cover1r _)]
    rfl
  iexists _; isplitr
  swap; · iexact H25
  ipureintro
  refine (View.read_writes_eq_canon _ _ _ (cover1r _)).trans ?_
  rfl

set_option maxHeartbeats 2000000 in
/-- The front kernel at a later point: the scratch as the first point left it, the query block untouched. -/
theorem sound1B (c : Dev nD) (E : Set ℕ) (i : grid1.Coords) (arg1 : Memref sig .tc .vmem S320x1 .f32) (harg1 : arg1.IsWhole) (arg2 : Memref sig .tc .vmem S3x2048 .f32) (harg2 : arg2.IsWhole) (arg3 : Memref sig .tc .vmem S1x2048 .f32) (harg3 : arg3.IsWhole) (arg4 : Memref sig .tc .vmem S2048x1024 .f32) (harg4 : arg4.IsWhole) (arg5 : Memref sig .tc .vmem S1x1024 .f32) (harg5 : arg5.IsWhole) (arg6 : Memref sig .tc .vmem S16x20 .f32) (harg6 : arg6.IsWhole) (arg7 : Memref sig .tc .vmem S16x20 .f32) (harg7 : arg7.IsWhole) (arg8 : Memref sig .tc .vmem S20x1024 .f32) (harg8 : arg8.IsWhole) (arg9 : Memref sig .tc .vmem S20x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1024x1024 .f32) (harg15 : arg15.IsWhole) (arg16 : Memref sig .tc .vmem S1x1024 .f32) (harg16 : arg16.IsWhole) (arg17 : Memref sig .tc .vmem S1024x2048 .f32) (harg17 : arg17.IsWhole) (arg18 : Memref sig .tc .vmem S2x1x1024 .f32) (harg18 : arg18.IsWhole) (arg19 : Memref sig .tc .vmem S1024x1024 .f32) (harg19 : arg19.IsWhole) (arg20 : Memref sig .tc .vmem S1x1024 .f32) (harg20 : arg20.IsWhole) (arg21 : Memref sig .tc .vmem S1024x1024 .f32) (harg21 : arg21.IsWhole) (arg22 : Memref sig .tc .vmem S1x1024 .f32) (harg22 : arg22.IsWhole) (arg23 : Memref sig .tc .vmem S320x1024 .bf16) (harg23 : arg23.IsWhole) (arg24 : Memref sig .tc .vmem S2x16x1024 .bf16) (harg24 : arg24.IsWhole) (arg25 : Memref sig .tc .vmem S2x16x1024 .bf16) (harg25 : arg25.IsWhole) (arg26 : Memref sig .tc .vmem S16x1024 .bf16) (harg26 : arg26.IsWhole)
    (hc0 : ¬ k1_cond1 i = 1#1) (x22 : Vec F S320x1024 .bf16) (xr : Vec F S16x1024 .bf16) (x0 : Vec F S320x1 .f32) (x1 : Vec F S3x2048 .f32) (x2 : Vec F S1x2048 .f32) (x3 : Vec F S2048x1024 .f32) (x4 : Vec F S1x1024 .f32) (x5 : Vec F S16x20 .f32) (x6 : Vec F S16x20 .f32) (x7 : Vec F S20x1024 .f32) (x8 : Vec F S20x1024 .f32) (x9 : Vec F S1x1024 .f32) (x10 : Vec F S1x1024 .f32) (x11 : Vec F S1x1024 .f32) (x12 : Vec F S1x1024 .f32) (x13 : Vec F S1x1024 .f32) (x14 : Vec F S1024x1024 .f32) (x15 : Vec F S1x1024 .f32) (x16 : Vec F S1024x2048 .f32) (x17 : Vec F S2x1x1024 .f32) (x18 : Vec F S1024x1024 .f32) (x19 : Vec F S1x1024 .f32) (x20 : Vec F S1024x1024 .f32) (x21 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ (∃ d, owns (c : Thread nD τ) arg24 fullShare d) ∗ (∃ d, owns (c : Thread nD τ) arg25 fullShare d) ∗ owns (c : Thread nD τ) arg26 fullShare xr
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare (kblk xr x16 x17 x18 x19) ∗ owns (c : Thread nD τ) arg25 fullShare (vblk xr x16 x17 x20 x21) ∗ owns (c : Thread nD τ) arg26 fullShare xr) -∗ K ⟨⟩))
      ⊢ wp frame (wpE (defs₀ (F := F)) Variants.none c none) E (cc1_frontkv_pass i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc1_frontkv_pass_eq_skeleton]; unfold cc1_frontkv_pass_skel
  simp only [k1_part3_eq_skeleton]; unfold k1_part3_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%d23, %f23, -, H23⟩, ⟨%d24, %f24, -, H24⟩, ⟨%f25, %hf25, H25⟩, Hk⟩
  subst hf0
  subst hf1
  subst hf2
  subst hf3
  subst hf4
  subst hf5
  subst hf6
  subst hf7
  subst hf8
  subst hf9
  subst hf10
  subst hf11
  subst hf12
  subst hf13
  subst hf14
  subst hf15
  subst hf16
  subst hf17
  subst hf18
  subst hf19
  subst hf20
  subst hf21
  subst hf22
  subst hf25
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists _; isplitr
    swap; · iexact H23
    ipureintro
    refine (View.read_writes_eq_canon _ _ _ (cover1kv _ _)).trans ?_
    rfl
  isplitl [H24]
  · iexists _; isplitr
    swap; · iexact H24
    ipureintro
    refine (View.read_writes_eq_canon _ _ _ (cover1kv _ _)).trans ?_
    rfl
  iexists f25; isplitr; · ipureintro; rfl
  iexact H25

/-! ## The blocks the call stages -/

section
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query block the first point leaves: the call's whole query result. -/
def qval (c : Dev nD) : Vec F S320x1024 .bf16 := qblk (iblk1 V c 0 t1_0) (iblk1 V c 1 t1_0) (iblk1 V c 2 t1_0) (iblk1 V c 3 t1_0) (iblk1 V c 4 t1_0) (iblk1 V c 14 t1_0) (iblk1 V c 15 t1_0)

/-- The scratch after the first point. -/
def rval (c : Dev nD) : Vec F S16x1024 .bf16 := rblk (iblk1 V c 5 t1_0) (iblk1 V c 7 t1_0) (iblk1 V c 6 t1_0) (iblk1 V c 8 t1_0) (iblk1 V c 9 t1_0) (iblk1 V c 12 t1_0) (iblk1 V c 13 t1_0) (iblk1 V c 10 t1_0) (iblk1 V c 11 t1_0)

/-- The scoped rest of the call, its scratch apart. -/
theorem PhiA1 (c : Dev nD) : (Pipeline.ΦA spec1 c : sProp 𝕄)
    = iprop(iprop((∃ d, owns (c : Thread nD τ) (Memref.whole cc1_scratch0) fullShare d)
        ∗ Pipeline.scopedRestBut (Ix := Unit) (Name := ℕ) (U := UR sig nD τ) (Lvl := ℕ) (Val := Elt F) spec1 c [cc1_scratch0]) ∗ ∃ r, prngReg c r) := by
  unfold Pipeline.ΦA; rw [scopedRest1_split]; simp only [owns_whole]

/-- The invariant: before the first point the scratch at anything, after it at `rval`. -/
def Phi1 (c : Dev nD) : ℕ → sProp 𝕄
  | 0 => Pipeline.ΦA spec1 c
  | _ + 1 => iprop(iprop(owns (c : Thread nD τ) (Memref.whole cc1_scratch0) fullShare (rval V c)
        ∗ Pipeline.scopedRestBut (Ix := Unit) (Name := ℕ) (U := UR sig nD τ) (Lvl := ℕ) (Val := Elt F) spec1 c [cc1_scratch0]) ∗ ∃ r, prngReg c r)

/-- The call's proof data on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => iblk1 V c 17 t
    | ⟨18, _⟩ => iblk1 V c 18 t
    | ⟨19, _⟩ => iblk1 V c 19 t
    | ⟨20, _⟩ => iblk1 V c 20 t
    | ⟨21, _⟩ => iblk1 V c 21 t
    | ⟨22, _⟩ => qval V c
    | ⟨23, _⟩ => kblk (rval V c) (iblk1 V c 16 t) (iblk1 V c 17 t) (iblk1 V c 18 t) (iblk1 V c 19 t)
    | ⟨24, _⟩ => vblk (rval V c) (iblk1 V c 16 t) (iblk1 V c 17 t) (iblk1 V c 20 t) (iblk1 V c 21 t)
    | ⟨_ + 25, h⟩ => absurd h (Nat.not_lt.2 (Nat.le_add_left _ _))
  Φ n := Phi1 V c n.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = iblk1 V c 16 t := by dsimp only [dat1]
theorem after1_17 (c : Dev nD) (t : Fin cfg1.N) : (dat1 V c).after 17 t = iblk1 V c 17 t := by dsimp only [dat1]
theorem after1_18 (c : Dev nD) (t : Fin cfg1.N) : (dat1 V c).after 18 t = iblk1 V c 18 t := by dsimp only [dat1]
theorem after1_19 (c : Dev nD) (t : Fin cfg1.N) : (dat1 V c).after 19 t = iblk1 V c 19 t := by dsimp only [dat1]
theorem after1_20 (c : Dev nD) (t : Fin cfg1.N) : (dat1 V c).after 20 t = iblk1 V c 20 t := by dsimp only [dat1]
theorem after1_21 (c : Dev nD) (t : Fin cfg1.N) : (dat1 V c).after 21 t = iblk1 V c 21 t := by dsimp only [dat1]
theorem after1_22 (c : Dev nD) (t : Fin cfg1.N) : (dat1 V c).after 22 t = qval V c := by dsimp only [dat1]
theorem after1_23 (c : Dev nD) (t : Fin cfg1.N) : (dat1 V c).after 23 t = kblk (rval V c) (iblk1 V c 16 t) (iblk1 V c 17 t) (iblk1 V c 18 t) (iblk1 V c 19 t) := by dsimp only [dat1]
theorem after1_24 (c : Dev nD) (t : Fin cfg1.N) : (dat1 V c).after 24 t = vblk (rval V c) (iblk1 V c 16 t) (iblk1 V c 17 t) (iblk1 V c 20 t) (iblk1 V c 21 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)
theorem before1_6 (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)
theorem before1_7 (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)
theorem before1_8 (c : Dev nD) (t : Fin cfg1.N) (d) : (dat1 V c).before 8 t d = iblk1 V c 8 t :=
  ((dat1 V c).before_in_eq_fetched 8 rfl (fun _ => rfl) (fun _ _ _ => rfl)
    (fun t => by rw [after1_8]; unfold Dat.blockOf iblk1; rw [A_eq1]; try rfl) t d).trans
    (by unfold Dat.fetched Dat.blockOf iblk1; rw [A_eq1]; try rfl)
theorem before1_9 (c : Dev nD) (t : Fin cfg1.N) (d) : (dat1 V c).before 9 t d = iblk1 V c 9 t :=
  ((dat1 V c).before_in_eq_fetched 9 rfl (fun _ => rfl) (fun _ _ _ => rfl)
    (fun t => by rw [after1_9]; unfold Dat.blockOf iblk1; rw [A_eq1]; try rfl) t d).trans
    (by unfold Dat.fetched Dat.blockOf iblk1; rw [A_eq1]; try rfl)
theorem before1_10 (c : Dev nD) (t : Fin cfg1.N) (d) : (dat1 V c).before 10 t d = iblk1 V c 10 t :=
  ((dat1 V c).before_in_eq_fetched 10 rfl (fun _ => rfl) (fun _ _ _ => rfl)
    (fun t => by rw [after1_10]; unfold Dat.blockOf iblk1; rw [A_eq1]; try rfl) t d).trans
    (by unfold Dat.fetched Dat.blockOf iblk1; rw [A_eq1]; try rfl)
theorem before1_11 (c : Dev nD) (t : Fin cfg1.N) (d) : (dat1 V c).before 11 t d = iblk1 V c 11 t :=
  ((dat1 V c).before_in_eq_fetched 11 rfl (fun _ => rfl) (fun _ _ _ => rfl)
    (fun t => by rw [after1_11]; unfold Dat.blockOf iblk1; rw [A_eq1]; try rfl) t d).trans
    (by unfold Dat.fetched Dat.blockOf iblk1; rw [A_eq1]; try rfl)
theorem before1_12 (c : Dev nD) (t : Fin cfg1.N) (d) : (dat1 V c).before 12 t d = iblk1 V c 12 t :=
  ((dat1 V c).before_in_eq_fetched 12 rfl (fun _ => rfl) (fun _ _ _ => rfl)
    (fun t => by rw [after1_12]; unfold Dat.blockOf iblk1; rw [A_eq1]; try rfl) t d).trans
    (by unfold Dat.fetched Dat.blockOf iblk1; rw [A_eq1]; try rfl)
theorem before1_13 (c : Dev nD) (t : Fin cfg1.N) (d) : (dat1 V c).before 13 t d = iblk1 V c 13 t :=
  ((dat1 V c).before_in_eq_fetched 13 rfl (fun _ => rfl) (fun _ _ _ => rfl)
    (fun t => by rw [after1_13]; unfold Dat.blockOf iblk1; rw [A_eq1]; try rfl) t d).trans
    (by unfold Dat.fetched Dat.blockOf iblk1; rw [A_eq1]; try rfl)
theorem before1_14 (c : Dev nD) (t : Fin cfg1.N) (d) : (dat1 V c).before 14 t d = iblk1 V c 14 t :=
  ((dat1 V c).before_in_eq_fetched 14 rfl (fun _ => rfl) (fun _ _ _ => rfl)
    (fun t => by rw [after1_14]; unfold Dat.blockOf iblk1; rw [A_eq1]; try rfl) t d).trans
    (by unfold Dat.fetched Dat.blockOf iblk1; rw [A_eq1]; try rfl)
theorem before1_15 (c : Dev nD) (t : Fin cfg1.N) (d) : (dat1 V c).before 15 t d = iblk1 V c 15 t :=
  ((dat1 V c).before_in_eq_fetched 15 rfl (fun _ => rfl) (fun _ _ _ => rfl)
    (fun t => by rw [after1_15]; unfold Dat.blockOf iblk1; rw [A_eq1]; try rfl) t d).trans
    (by unfold Dat.fetched Dat.blockOf iblk1; rw [A_eq1]; try rfl)
theorem before1_16 (c : Dev nD) (t : Fin cfg1.N) (d) : (dat1 V c).before 16 t d = iblk1 V c 16 t :=
  ((dat1 V c).before_in_eq_fetched 16 rfl (fun _ => rfl) (fun _ _ _ => rfl)
    (fun t => by rw [after1_16]; unfold Dat.blockOf iblk1; rw [A_eq1]; try rfl) t d).trans
    (by unfold Dat.fetched Dat.blockOf iblk1; rw [A_eq1]; try rfl)
theorem before1_17 (c : Dev nD) (t : Fin cfg1.N) (d) : (dat1 V c).before 17 t d = iblk1 V c 17 t :=
  ((dat1 V c).before_in_eq_fetched 17 rfl (fun _ => rfl) (fun _ _ _ => rfl)
    (fun t => by rw [after1_17]; unfold Dat.blockOf iblk1; rw [A_eq1]; try rfl) t d).trans
    (by unfold Dat.fetched Dat.blockOf iblk1; rw [A_eq1]; try rfl)
theorem before1_18 (c : Dev nD) (t : Fin cfg1.N) (d) : (dat1 V c).before 18 t d = iblk1 V c 18 t :=
  ((dat1 V c).before_in_eq_fetched 18 rfl (fun _ => rfl) (fun _ _ _ => rfl)
    (fun t => by rw [after1_18]; unfold Dat.blockOf iblk1; rw [A_eq1]; try rfl) t d).trans
    (by unfold Dat.fetched Dat.blockOf iblk1; rw [A_eq1]; try rfl)
theorem before1_19 (c : Dev nD) (t : Fin cfg1.N) (d) : (dat1 V c).before 19 t d = iblk1 V c 19 t :=
  ((dat1 V c).before_in_eq_fetched 19 rfl (fun _ => rfl) (fun _ _ _ => rfl)
    (fun t => by rw [after1_19]; unfold Dat.blockOf iblk1; rw [A_eq1]; try rfl) t d).trans
    (by unfold Dat.fetched Dat.blockOf iblk1; rw [A_eq1]; try rfl)
theorem before1_20 (c : Dev nD) (t : Fin cfg1.N) (d) : (dat1 V c).before 20 t d = iblk1 V c 20 t :=
  ((dat1 V c).before_in_eq_fetched 20 rfl (fun _ => rfl) (fun _ _ _ => rfl)
    (fun t => by rw [after1_20]; unfold Dat.blockOf iblk1; rw [A_eq1]; try rfl) t d).trans
    (by unfold Dat.fetched Dat.blockOf iblk1; rw [A_eq1]; try rfl)
theorem before1_21 (c : Dev nD) (t : Fin cfg1.N) (d) : (dat1 V c).before 21 t d = iblk1 V c 21 t :=
  ((dat1 V c).before_in_eq_fetched 21 rfl (fun _ => rfl) (fun _ _ _ => rfl)
    (fun t => by rw [after1_21]; unfold Dat.blockOf iblk1; rw [A_eq1]; try rfl) t d).trans
    (by unfold Dat.fetched Dat.blockOf iblk1; rw [A_eq1]; try rfl)

theorem cond1_iff : ∀ t : Fin grid1.N, k1_cond1 (grid1.coords t) = 1#1 ↔ t.val = 0 := by decide +kernel
theorem live1_22 : ∀ t : Fin cfg1.N, t.val = 0 → cfg1.idle 22 (cfg1.grid.coords t) = false := by decide +kernel
theorem idle1_22 : ∀ t : Fin cfg1.N, t.val ≠ 0 → cfg1.idle 22 (cfg1.grid.coords t) = true := by decide +kernel
theorem fresh1_22 : ∀ t : Fin cfg1.N, t.val ≠ 0 → cfg1.fresh 22 t.val = false := by decide +kernel

/-- After the first point the query block's buffer holds the whole query result. -/
theorem before1_22 (c : Dev nD) (t : Fin cfg1.N) (ht : t.val ≠ 0) (d) : (dat1 V c).before 22 t d = qval V c := by
  rw [(dat1 V c).before_out_traj 22 rfl (fun _ _ => rfl) (fun t h _ _ => by rw [after1_22, after1_22]) t.val t rfl d,
    fresh1_22 t ht, if_neg Bool.false_ne_true, after1_22]

/-- At the first point the body leaves the query block, -/
theorem leaves1_22_zero (c : Dev nD) (t : Fin cfg1.N) (ht : t.val = 0) :
    (dat1 V c).leavesExact 22 t = owns (c : Thread nD τ) (st1_22 t) fullShare (qval V c) := by
  unfold Dat.leavesExact; rw [live1_22 t ht, after1_22]

/-- and at a later point it is to leave what it found. -/
theorem leaves1_22_pos (c : Dev nD) (t : Fin cfg1.N) (ht : t.val ≠ 0) :
    owns (c : Thread nD τ) (st1_22 t) fullShare (qval V c) ⊢ (dat1 V c).leavesExact 22 t := by
  cases hf : (cfg1.win 22).flush t
  · rw [(dat1 V c).leavesExact_idle 22 t (idle1_22 t ht) hf]
    iintro H
    iexists (qval V c)
    rw [before1_22 V c t ht]
    iexact H
  · unfold Dat.leavesExact; rw [idle1_22 t ht, hf, after1_22]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d))
    ∗ (∃ d, owns (c : Thread nD τ) (st1_19 t) fullShare ((dat1 V c).before 19 t d))
    ∗ (∃ d, owns (c : Thread nD τ) (st1_20 t) fullShare ((dat1 V c).before 20 t d))
    ∗ (∃ d, owns (c : Thread nD τ) (st1_21 t) fullShare ((dat1 V c).before 21 t d))
    ∗ (∃ d, owns (c : Thread nD τ) (st1_22 t) fullShare ((dat1 V c).before 22 t d))
    ∗ (∃ d, owns (c : Thread nD τ) (st1_23 t) fullShare ((dat1 V c).before 23 t d))
    ∗ (∃ d, owns (c : Thread nD τ) (st1_24 t) fullShare ((dat1 V c).before 24 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t)
    ∗ owns (c : Thread nD τ) (st1_19 t) fullShare ((dat1 V c).after 19 t)
    ∗ owns (c : Thread nD τ) (st1_20 t) fullShare ((dat1 V c).after 20 t)
    ∗ owns (c : Thread nD τ) (st1_21 t) fullShare ((dat1 V c).after 21 t)
    ∗ (dat1 V c).leavesExact 22 t
    ∗ owns (c : Thread nD τ) (st1_23 t) fullShare ((dat1 V c).after 23 t)
    ∗ owns (c : Thread nD τ) (st1_24 t) fullShare ((dat1 V c).after 24 t))

set_option maxHeartbeats 16000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16, before1_17, before1_18, before1_19, before1_20, before1_21]
  rw [show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19, after1_20, after1_21, after1_23, after1_24]
  obtain ⟨tv, h⟩ := t
  cases tv with
  | zero =>
    have hc := (cond1_iff ⟨0, h⟩).mpr rfl
    rw [show (dat1 V c).Φ (Fin.castSucc ⟨0, h⟩) = Pipeline.ΦA spec1 c from rfl,
      show (dat1 V c).Φ (Fin.succ ⟨0, h⟩) = Phi1 V c 1 from rfl, PhiA1, leaves1_22_zero V c ⟨0, h⟩ rfl]
    unfold Phi1
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply (sound1A c Set.univ (grid1.coords ⟨0, h⟩) _ _ _ _ _ _ _ _ _ _ _ _ _ _ _ _ _ _ _ _ _ _ _ _ _ _ _ _ _ _ _ _ _ _ _ _ _ _ _ _ _ _ _ _ _ _ _ _ _ _ _ _ hc (iblk1 V c 0 ⟨0, h⟩) (iblk1 V c 1 ⟨0, h⟩) (iblk1 V c 2 ⟨0, h⟩) (iblk1 V c 3 ⟨0, h⟩) (iblk1 V c 4 ⟨0, h⟩) (iblk1 V c 5 ⟨0, h⟩) (iblk1 V c 6 ⟨0, h⟩) (iblk1 V c 7 ⟨0, h⟩) (iblk1 V c 8 ⟨0, h⟩) (iblk1 V c 9 ⟨0, h⟩) (iblk1 V c 10 ⟨0, h⟩) (iblk1 V c 11 ⟨0, h⟩) (iblk1 V c 12 ⟨0, h⟩) (iblk1 V c 13 ⟨0, h⟩) (iblk1 V c 14 ⟨0, h⟩) (iblk1 V c 15 ⟨0, h⟩) (iblk1 V c 16 ⟨0, h⟩) (iblk1 V c 17 ⟨0, h⟩) (iblk1 V c 18 ⟨0, h⟩) (iblk1 V c 19 ⟨0, h⟩) (iblk1 V c 20 ⟨0, h⟩) (iblk1 V c 21 ⟨0, h⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexists _; iexact H22
    isplitl [H23]; · iexists _; iexact H23
    isplitl [H24]; · iexists _; iexact H24
    isplitl [HS]; · iexists _; iexact HS
    iintro ⟨H0, H1, H2, H3, H4, H5, H6, H7, H8, H9, H10, H11, H12, H13, H14, H15, H16, H17, H18, H19, H20, H21, H22, H23, H24, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    iexact H24
  | succ n =>
    have hc : ¬ k1_cond1 (grid1.coords ⟨n + 1, h⟩) = 1#1 := fun e => absurd ((cond1_iff ⟨n + 1, h⟩).mp e) (Nat.succ_ne_zero n)
    rw [show (dat1 V c).Φ (Fin.castSucc ⟨n + 1, h⟩) = Phi1 V c (n + 1) from rfl,
      show (dat1 V c).Φ (Fin.succ ⟨n + 1, h⟩) = Phi1 V c (n + 1 + 1) from rfl]
    simp only [before1_22 V c ⟨n + 1, h⟩ (Nat.succ_ne_zero n)]
    unfold Phi1
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
    iapply (sound1B c Set.univ (grid1.coords ⟨n + 1, h⟩) _ _ _ _ _ _ _ _ _ _ _ _ _ _ _ _ _ _ _ _ _ _ _ _ _ _ _ _ _ _ _ _ _ _ _ _ _ _ _ _ _ _ _ _ _ _ _ _ _ _ _ _ hc (qval V c) (rval V c) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (iblk1 V c 7 ⟨n + 1, h⟩) (iblk1 V c 8 ⟨n + 1, h⟩) (iblk1 V c 9 ⟨n + 1, h⟩) (iblk1 V c 10 ⟨n + 1, h⟩) (iblk1 V c 11 ⟨n + 1, h⟩) (iblk1 V c 12 ⟨n + 1, h⟩) (iblk1 V c 13 ⟨n + 1, h⟩) (iblk1 V c 14 ⟨n + 1, h⟩) (iblk1 V c 15 ⟨n + 1, h⟩) (iblk1 V c 16 ⟨n + 1, h⟩) (iblk1 V c 17 ⟨n + 1, h⟩) (iblk1 V c 18 ⟨n + 1, h⟩) (iblk1 V c 19 ⟨n + 1, h⟩) (iblk1 V c 20 ⟨n + 1, h⟩) (iblk1 V c 21 ⟨n + 1, h⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexists _; iexact H23
    isplitl [H24]; · iexists _; iexact H24
    isplitl [HS]; · iexact HS
    iintro ⟨H0, H1, H2, H3, H4, H5, H6, H7, H8, H9, H10, H11, H12, H13, H14, H15, H16, H17, H18, H19, H20, H21, H22, H23, H24, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]
    · iapply (leaves1_22_pos V c ⟨n + 1, h⟩ (Nat.succ_ne_zero n)); iexact H22
    isplitl [H23]; · iexact H23
    iexact H24

theorem hin1 (c : Dev nD) : Pipeline.ΦA spec1 c ⊢ (dat1 V c).Φ 0 := Idealize.SL.BI.Entails.refl _

theorem hout1 (c : Dev nD) : (dat1 V c).Φ (Fin.last cfg1.N) ⊢ Pipeline.ΦA spec1 c := by
  rw [show (dat1 V c).Φ (Fin.last cfg1.N) = Phi1 V c 10 from congrArg (Phi1 V c) (show cfg1.N = 10 from N_1), PhiA1]
  unfold Phi1
  iintro ⟨⟨HS, HR⟩, Hg⟩
  isplitl [HS HR]
  · isplitl [HS]
    · iexists _; iexact HS
    iexact HR
  iexact Hg

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 8000000 in
/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end

end Cert.KernelIdeal.Calls

end
-- ==== Proof.Call2KernelIdeal.lean ====
/- The third call (attention and head): what its body leaves in its two scratch buffers and its output, and its proof data. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp
public import Idealize.ShloMosaic.Lib.Pipeline.ValueKit.Basic

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev ao_all : Rect S20x16x1024 := (Rect.unit (s := S20x16x1024) ![0, 0, 0] S20x16x1024.size inb_S20x16x1024_S20x16x1024_0_0_0)
abbrev acc_all : Rect S16x1024 := (Rect.unit (s := S16x1024) ![0, 0] S16x1024.size inb_S16x1024_S16x1024_0_0)
abbrev out_all : Rect S16x20 := (Rect.unit (s := S16x20) ![0, 0] S16x20.size inb_S16x20_S16x20_0_0)
abbrev ao_1 (i : grid2.Coords) : Rect S20x16x1024 := (Rect.unit (s := S20x16x1024) (k2_off1 i) S1x16x1024.size (k2_off1_inb i))
abbrev ao_2 (i : grid2.Coords) : Rect S20x16x1024 := (Rect.unit (s := S20x16x1024) (k2_off2 i) S1x16x1024.size (k2_off2_inb i))
abbrev w_1 : Rect S2x1024x1024 := (Rect.unit (s := S2x1024x1024) ![0, 0, 0] S1x1024x1024.size inb_S2x1024x1024_S1x1024x1024_0_0_0)
abbrev w_2 : Rect S2x1024x1024 := (Rect.unit (s := S2x1024x1024) ![1, 0, 0] S1x1024x1024.size inb_S2x1024x1024_S1x1024x1024_1_0_0)

/-- The attention's result, for each of the twenty objects a block of sixteen rows. -/
def aoblk (x0 : Vec F S320x1024 .bf16) (x1 : Vec F S320x1024 .bf16) (x2 : Vec F S320x1024 .bf16) (x3 : Vec F S1024x1024 .f32) (x4 : Vec F S1x1024 .f32) : Vec F S20x16x1024 .bf16 :=
  View.canon [⟨ao_all, k2_pay1 (k2_pay5 (View.ld x0 (Rect.unit (s := S320x1024) ![0, 0] S320x1024.size inb_S320x1024_S320x1024_0_0))) (k2_pay6 (View.ld x1 (Rect.unit (s := S320x1024) ![0, 0] S320x1024.size inb_S320x1024_S320x1024_0_0))) (k2_pay7 (View.ld x2 (Rect.unit (s := S320x1024) ![0, 0] S320x1024.size inb_S320x1024_S320x1024_0_0))) (k2_pay8 (View.ld x3 (Rect.unit (s := S1024x1024) ![0, 0] S1024x1024.size inb_S1024x1024_S1024x1024_0_0))) k2_pay9 (k2_pay11 (k2_pay5 (View.ld x0 (Rect.unit (s := S320x1024) ![0, 0] S320x1024.size inb_S320x1024_S320x1024_0_0))) (k2_pay6 (View.ld x1 (Rect.unit (s := S320x1024) ![0, 0] S320x1024.size inb_S320x1024_S320x1024_0_0))) (k2_pay7 (View.ld x2 (Rect.unit (s := S320x1024) ![0, 0] S320x1024.size inb_S320x1024_S320x1024_0_0))) (k2_pay8 (View.ld x3 (Rect.unit (s := S1024x1024) ![0, 0] S1024x1024.size inb_S1024x1024_S1024x1024_0_0))) k2_pay9 (k2_pay10 (View.ld x0 (Rect.unit (s := S320x1024) ![0, 0] S320x1024.size inb_S320x1024_S320x1024_0_0)) (View.ld x1 (Rect.unit (s := S320x1024) ![0, 0] S320x1024.size inb_S320x1024_S320x1024_0_0)) (View.ld x2 (Rect.unit (s := S320x1024) ![0, 0] S320x1024.size inb_S320x1024_S320x1024_0_0)) (View.ld x3 (Rect.unit (s := S1024x1024) ![0, 0] S1024x1024.size inb_S1024x1024_S1024x1024_0_0)) (View.ld x4 (Rect.unit (s := S1x1024) ![0, 0] S1x1024.size inb_S1x1024_S1x1024_0_0))))⟩]

/-- The cleared accumulator. -/
def zblk : Vec F S16x1024 .f32 := View.canon [⟨acc_all, k2_pay2 (F := F)⟩]

/-- The accumulator after a point's two products are added. -/
def accblk (i : grid2.Coords) (xa : Vec F S16x1024 .f32) (xo : Vec F S20x16x1024 .bf16) (x5 : Vec F S2x1024x1024 .f32) : Vec F S16x1024 .f32 :=
  View.canon [⟨acc_all, k2_pay3 (View.ld xa acc_all) (View.ld xo (ao_1 i)) (View.ld x5 w_1) (View.ld xo (ao_2 i)) (View.ld x5 w_2)⟩]

/-- The scores from the finished accumulator. -/
def outblk (xa : Vec F S16x1024 .f32) (x6 : Vec F S1x1024 .f32) (x9 : Vec F S1x1024 .f32) (x10 : Vec F S1x1024 .f32) (x7 : Vec F S1x1024 .f32) (x8 : Vec F S1x1024 .f32) (x11 : Vec F S1024x20 .f32) (x12 : Vec F S1x20 .f32) (x13 : Vec F S16x20 .f32) : Vec F S16x20 .f32 :=
  View.canon [⟨out_all, k2_pay4 (k2_pay12 (View.ld xa acc_all) (View.ld x6 (Rect.unit (s := S1x1024) ![0, 0] S1x1024.size inb_S1x1024_S1x1024_0_0)) (View.ld x9 (Rect.unit (s := S1x1024) ![0, 0] S1x1024.size inb_S1x1024_S1x1024_0_0)) (View.ld x10 (Rect.unit (s := S1x1024) ![0, 0] S1x1024.size inb_S1x1024_S1x1024_0_0)) (View.ld x7 (Rect.unit (s := S1x1024) ![0, 0] S1x1024.size inb_S1x1024_S1x1024_0_0)) (View.ld x8 (Rect.unit (s := S1x1024) ![0, 0] S1x1024.size inb_S1x1024_S1x1024_0_0)) (View.ld x11 (Rect.unit (s := S1024x20) ![0, 0] S1024x20.size inb_S1024x20_S1024x20_0_0)) (View.ld x12 (Rect.unit (s := S1x20) ![0, 0] S1x20.size inb_S1x20_S1x20_0_0))) (k2_pay13 (View.ld x13 (Rect.unit (s := S16x20) ![0, 0] S16x20.size inb_S16x20_S16x20_0_0)))⟩]

theorem cover2o (p0 : Vec F S20x16x1024 .bf16) (y : S20x16x1024.Idx) :
    ∃ pc ∈ ([⟨ao_all, p0⟩] : List (View.Piece (Elt F) S20x16x1024 .bf16)), y ∈ pc.1.set :=
  View.cover_of_tiled [⟨ao_all, p0⟩] S20x16x1024.size (by rfl) y

theorem cover2a (p0 : Vec F S16x1024 .f32) (y : S16x1024.Idx) :
    ∃ pc ∈ ([⟨acc_all, p0⟩] : List (View.Piece (Elt F) S16x1024 .f32)), y ∈ pc.1.set :=
  View.cover_of_tiled [⟨acc_all, p0⟩] S16x1024.size (by rfl) y

theorem cover2s (p0 : Vec F S16x20 .f32) (y : S16x20.Idx) :
    ∃ pc ∈ ([⟨out_all, p0⟩] : List (View.Piece (Elt F) S16x20 .f32)), y ∈ pc.1.set :=
  View.cover_of_tiled [⟨out_all, p0⟩] S16x20.size (by rfl) y

theorem cover2aa (p0 p1 : Vec F S16x1024 .f32) (y : S16x1024.Idx) :
    ∃ pc ∈ ([⟨acc_all, p0⟩, ⟨acc_all, p1⟩] : List (View.Piece (Elt F) S16x1024 .f32)), y ∈ pc.1.set := by
  obtain ⟨pc, h, hy⟩ := cover2a p0 y
  exact ⟨pc, List.mem_cons.mpr (Or.inl (List.mem_singleton.mp h)), hy⟩

theorem canon2aa (p0 p1 : Vec F S16x1024 .f32) :
    View.canon ([⟨acc_all, p0⟩, ⟨acc_all, p1⟩] : List (View.Piece (Elt F) S16x1024 .f32)) = View.canon [⟨acc_all, p0⟩] :=
  (View.canon_cons_unit_lit _ _ _ (by decide)).trans (View.canon_cons_unit_lit _ _ _ (by decide)).symm

set_option maxHeartbeats 2000000 in
/-- The attention-and-head kernel at the first point: it computes the attention, clears the accumulator and adds
    the first two products. -/
theorem sound2A (c : Dev nD) (E : Set ℕ) (i : grid2.Coords) (arg1 : Memref sig .tc .vmem S320x1024 .bf16) (harg1 : arg1.IsWhole) (arg2 : Memref sig .tc .vmem S320x1024 .bf16) (harg2 : arg2.IsWhole) (arg3 : Memref sig .tc .vmem S320x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S2x1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x20 .f32) (harg12 : arg12.IsWhole) (arg13 : Memref sig .tc .vmem S1x20 .f32) (harg13 : arg13.IsWhole) (arg14 : Memref sig .tc .vmem S16x20 .f32) (harg14 : arg14.IsWhole) (arg15 : Memref sig .tc .vmem S16x20 .f32) (harg15 : arg15.IsWhole) (arg16 : Memref sig .tc .vmem S20x16x1024 .bf16) (harg16 : arg16.IsWhole) (arg17 : Memref sig .tc .vmem S16x1024 .f32) (harg17 : arg17.IsWhole)
    (hc0 : Scalar.cmpi .ne (Scalar.extui (Scalar.cmpi .eq (BitVec.ofNat 32 (i 0).val) 0#32) : BitVec 32) 0#32 = 1#1) (hc1 : ¬ k2_cond2 i = 1#1) (x14 : Vec F S16x20 .f32) (x0 : Vec F S320x1024 .bf16) (x1 : Vec F S320x1024 .bf16) (x2 : Vec F S320x1024 .bf16) (x3 : Vec F S1024x1024 .f32) (x4 : Vec F S1x1024 .f32) (x5 : Vec F S2x1024x1024 .f32) (x6 : Vec F S1x1024 .f32) (x7 : Vec F S1x1024 .f32) (x8 : Vec F S1x1024 .f32) (x9 : Vec F S1x1024 .f32) (x10 : Vec F S1x1024 .f32) (x11 : Vec F S1024x20 .f32) (x12 : Vec F S1x20 .f32) (x13 : Vec F S16x20 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (aoblk x0 x1 x2 x3 x4) ∗ owns (c : Thread nD τ) arg17 fullShare (accblk i zblk (aoblk x0 x1 x2 x3 x4) x5)) -∗ K ⟨⟩))
      ⊢ wp frame (wpE (defs₀ (F := F)) Variants.none c none) E (cc2_attnhead_pass i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2_attnhead_pass_eq_skeleton]; unfold cc2_attnhead_pass_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, Hk⟩
  subst hf0
  subst hf1
  subst hf2
  subst hf3
  subst hf4
  subst hf5
  subst hf6
  subst hf7
  subst hf8
  subst hf9
  subst hf10
  subst hf11
  subst hf12
  subst hf13
  subst hf14
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists _; isplitr
    swap; · iexact H15
    ipureintro
    refine (View.read_writes_eq_canon _ _ _ (cover2o _)).trans ?_
    rfl
  iexists _; isplitr
  swap; · iexact H16
  ipureintro
  refine (View.read_writes_eq_canon _ _ _ (cover2aa _ _)).trans ((canon2aa _ _).trans ?_)
  unfold sound2A.sl.v3 sound2A.sl.v6 sound2A.sl.v15 sound2A.sl.H16_1 sound2A.sl.H15_1
  rw [View.readCov_eq_canon_ld _ _ _ (cover2a _), View.readAt_writes_junk_eq_canon, View.readAt_writes_junk_eq_canon]
  rfl

set_option maxHeartbeats 2000000 in
/-- At a middle point it adds its two products into the accumulator. -/
theorem sound2B (c : Dev nD) (E : Set ℕ) (i : grid2.Coords) (arg1 : Memref sig .tc .vmem S320x1024 .bf16) (harg1 : arg1.IsWhole) (arg2 : Memref sig .tc .vmem S320x1024 .bf16) (harg2 : arg2.IsWhole) (arg3 : Memref sig .tc .vmem S320x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S2x1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x20 .f32) (harg12 : arg12.IsWhole) (arg13 : Memref sig .tc .vmem S1x20 .f32) (harg13 : arg13.IsWhole) (arg14 : Memref sig .tc .vmem S16x20 .f32) (harg14 : arg14.IsWhole) (arg15 : Memref sig .tc .vmem S16x20 .f32) (harg15 : arg15.IsWhole) (arg16 : Memref sig .tc .vmem S20x16x1024 .bf16) (harg16 : arg16.IsWhole) (arg17 : Memref sig .tc .vmem S16x1024 .f32) (harg17 : arg17.IsWhole)
    (hc0 : ¬ Scalar.cmpi .ne (Scalar.extui (Scalar.cmpi .eq (BitVec.ofNat 32 (i 0).val) 0#32) : BitVec 32) 0#32 = 1#1) (hc1 : ¬ k2_cond2 i = 1#1) (x14 : Vec F S16x20 .f32) (xo : Vec F S20x16x1024 .bf16) (xa : Vec F S16x1024 .f32) (x0 : Vec F S320x1024 .bf16) (x1 : Vec F S320x1024 .bf16) (x2 : Vec F S320x1024 .bf16) (x3 : Vec F S1024x1024 .f32) (x4 : Vec F S1x1024 .f32) (x5 : Vec F S2x1024x1024 .f32) (x6 : Vec F S1x1024 .f32) (x7 : Vec F S1x1024 .f32) (x8 : Vec F S1x1024 .f32) (x9 : Vec F S1x1024 .f32) (x10 : Vec F S1x1024 .f32) (x11 : Vec F S1024x20 .f32) (x12 : Vec F S1x20 .f32) (x13 : Vec F S16x20 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare xo ∗ owns (c : Thread nD τ) arg17 fullShare xa
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare xo ∗ owns (c : Thread nD τ) arg17 fullShare (accblk i xa xo x5)) -∗ K ⟨⟩))
      ⊢ wp frame (wpE (defs₀ (F := F)) Variants.none c none) E (cc2_attnhead_pass i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2_attnhead_pass_eq_skeleton]; unfold cc2_attnhead_pass_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf0
  subst hf1
  subst hf2
  subst hf3
  subst hf4
  subst hf5
  subst hf6
  subst hf7
  subst hf8
  subst hf9
  subst hf10
  subst hf11
  subst hf12
  subst hf13
  subst hf14
  subst hf15
  subst hf16
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  refine (View.read_writes_eq_canon _ _ _ (cover2a _)).trans ?_
  rfl

set_option maxHeartbeats 2000000 in
/-- At the last point it adds its two products and computes the scores. -/
theorem sound2C (c : Dev nD) (E : Set ℕ) (i : grid2.Coords) (arg1 : Memref sig .tc .vmem S320x1024 .bf16) (harg1 : arg1.IsWhole) (arg2 : Memref sig .tc .vmem S320x1024 .bf16) (harg2 : arg2.IsWhole) (arg3 : Memref sig .tc .vmem S320x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S2x1024x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1024x20 .f32) (harg12 : arg12.IsWhole) (arg13 : Memref sig .tc .vmem S1x20 .f32) (harg13 : arg13.IsWhole) (arg14 : Memref sig .tc .vmem S16x20 .f32) (harg14 : arg14.IsWhole) (arg15 : Memref sig .tc .vmem S16x20 .f32) (harg15 : arg15.IsWhole) (arg16 : Memref sig .tc .vmem S20x16x1024 .bf16) (harg16 : arg16.IsWhole) (arg17 : Memref sig .tc .vmem S16x1024 .f32) (harg17 : arg17.IsWhole)
    (hc0 : ¬ Scalar.cmpi .ne (Scalar.extui (Scalar.cmpi .eq (BitVec.ofNat 32 (i 0).val) 0#32) : BitVec 32) 0#32 = 1#1) (hc1 : k2_cond2 i = 1#1) (xo : Vec F S20x16x1024 .bf16) (xa : Vec F S16x1024 .f32) (x0 : Vec F S320x1024 .bf16) (x1 : Vec F S320x1024 .bf16) (x2 : Vec F S320x1024 .bf16) (x3 : Vec F S1024x1024 .f32) (x4 : Vec F S1x1024 .f32) (x5 : Vec F S2x1024x1024 .f32) (x6 : Vec F S1x1024 .f32) (x7 : Vec F S1x1024 .f32) (x8 : Vec F S1x1024 .f32) (x9 : Vec F S1x1024 .f32) (x10 : Vec F S1x1024 .f32) (x11 : Vec F S1024x20 .f32) (x12 : Vec F S1x20 .f32) (x13 : Vec F S16x20 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ owns (c : Thread nD τ) arg16 fullShare xo ∗ owns (c : Thread nD τ) arg17 fullShare xa
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare (outblk (accblk i xa xo x5) x6 x9 x10 x7 x8 x11 x12 x13) ∗ owns (c : Thread nD τ) arg16 fullShare xo ∗ owns (c : Thread nD τ) arg17 fullShare (accblk i xa xo x5)) -∗ K ⟨⟩))
      ⊢ wp frame (wpE (defs₀ (F := F)) Variants.none c none) E (cc2_attnhead_pass i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc2_attnhead_pass_eq_skeleton]; unfold cc2_attnhead_pass_skel
  simp only [k2_part1_eq_skeleton, k2_part2_eq_skeleton, k2_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%f16, %hf16, H16⟩, Hk⟩
  subst hf0
  subst hf1
  subst hf2
  subst hf3
  subst hf4
  subst hf5
  subst hf6
  subst hf7
  subst hf8
  subst hf9
  subst hf10
  subst hf11
  subst hf12
  subst hf13
  subst hf15
  subst hf16
  sl_exec (disch := first | sl_exact hc0 | sl_exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists _; isplitr
    swap; · iexact H14
    ipureintro
    refine (View.read_writes_eq_canon _ _ _ (cover2s _)).trans ?_
    unfold sound2C.sl.r sound2C.sl.r_1 sound2C.sl.v29 sound2C.sl.H16_1
    rw [View.readCov_eq_canon_ld _ _ _ (cover2a _)]
    rfl
  isplitl [H15]
  · iexists f15; isplitr; · ipureintro; rfl
    iexact H15
  iexists _; isplitr
  swap; · iexact H16
  ipureintro
  refine (View.read_writes_eq_canon _ _ _ (cover2a _)).trans ?_
  rfl

/-! ## The blocks the call stages -/

section
variable (V : (c : Dev nD) → (b : Ref sig .tc) → Buf (Elt F) ((c : Thread nD τ).loc b))

/-- Window `w`'s block at point `t`, read off its array as the call finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The attention's result, computed at the first point and kept. -/
def aoval (c : Dev nD) : Vec F S20x16x1024 .bf16 := aoblk (iblk2 V c 0 t2_0) (iblk2 V c 1 t2_0) (iblk2 V c 2 t2_0) (iblk2 V c 3 t2_0) (iblk2 V c 4 t2_0)

/-- The accumulator after point `n`. -/
def accval (c : Dev nD) : (n : ℕ) → n < cfg2.N → Vec F S16x1024 .f32
  | 0, h => accblk (grid2.coords ⟨0, h⟩) zblk (aoval V c) (iblk2 V c 5 ⟨0, h⟩)
  | n + 1, h => accblk (grid2.coords ⟨n + 1, h⟩) (accval c n (Nat.lt_of_succ_lt h)) (aoval V c) (iblk2 V c 5 ⟨n + 1, h⟩)

/-- The scoped rest of the call, its scratch apart. -/
theorem PhiA2 (c : Dev nD) : (Pipeline.ΦA spec2 c : sProp 𝕄)
    = iprop(iprop(iprop((∃ d, owns (c : Thread nD τ) (Memref.whole cc2_scratch0) fullShare d) ∗ (∃ d, owns (c : Thread nD τ) (Memref.whole cc2_scratch1) fullShare d))
        ∗ Pipeline.scopedRestBut (Ix := Unit) (Name := ℕ) (U := UR sig nD τ) (Lvl := ℕ) (Val := Elt F) spec2 c [cc2_scratch0, cc2_scratch1]) ∗ ∃ r, prngReg c r) := by
  unfold Pipeline.ΦA; rw [scopedRest2_split]; simp only [owns_whole]

/-- The invariant: before the first point the scratch at anything, after point `n` the attention's result and the
    accumulator. -/
def Phi2 (c : Dev nD) : (n : ℕ) → n ≤ cfg2.N → sProp 𝕄
  | 0, _ => Pipeline.ΦA spec2 c
  | n + 1, h => iprop(iprop(iprop(owns (c : Thread nD τ) (Memref.whole cc2_scratch0) fullShare (aoval V c) ∗ owns (c : Thread nD τ) (Memref.whole cc2_scratch1) fullShare (accval V c n h))
        ∗ Pipeline.scopedRestBut (Ix := Unit) (Name := ℕ) (U := UR sig nD τ) (Lvl := ℕ) (Val := Elt F) spec2 c [cc2_scratch0, cc2_scratch1]) ∗ ∃ r, prngReg c r)

/-- The call's proof data on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => outblk (accval V c t.val t.isLt) (iblk2 V c 6 t) (iblk2 V c 9 t) (iblk2 V c 10 t) (iblk2 V c 7 t) (iblk2 V c 8 t) (iblk2 V c 11 t) (iblk2 V c 12 t) (iblk2 V c 13 t)
    | ⟨_ + 15, h⟩ => absurd h (Nat.not_lt.2 (Nat.le_add_left _ _))
  Φ n := Phi2 V c n.val (Nat.le_of_lt_succ n.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = outblk (accval V c t.val t.isLt) (iblk2 V c 6 t) (iblk2 V c 9 t) (iblk2 V c 10 t) (iblk2 V c 7 t) (iblk2 V c 8 t) (iblk2 V c 11 t) (iblk2 V c 12 t) (iblk2 V c 13 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl)
    (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl)
    (fun t => by rw [after2_6]; unfold Dat.blockOf iblk2; rw [A_eq2]; try rfl) t d).trans
    (by unfold Dat.fetched Dat.blockOf iblk2; rw [A_eq2]; try rfl)
theorem before2_7 (c : Dev nD) (t : Fin cfg2.N) (d) : (dat2 V c).before 7 t d = iblk2 V c 7 t :=
  ((dat2 V c).before_in_eq_fetched 7 rfl (fun _ => rfl) (fun _ _ _ => rfl)
    (fun t => by rw [after2_7]; unfold Dat.blockOf iblk2; rw [A_eq2]; try rfl) t d).trans
    (by unfold Dat.fetched Dat.blockOf iblk2; rw [A_eq2]; try rfl)
theorem before2_8 (c : Dev nD) (t : Fin cfg2.N) (d) : (dat2 V c).before 8 t d = iblk2 V c 8 t :=
  ((dat2 V c).before_in_eq_fetched 8 rfl (fun _ => rfl) (fun _ _ _ => rfl)
    (fun t => by rw [after2_8]; unfold Dat.blockOf iblk2; rw [A_eq2]; try rfl) t d).trans
    (by unfold Dat.fetched Dat.blockOf iblk2; rw [A_eq2]; try rfl)
theorem before2_9 (c : Dev nD) (t : Fin cfg2.N) (d) : (dat2 V c).before 9 t d = iblk2 V c 9 t :=
  ((dat2 V c).before_in_eq_fetched 9 rfl (fun _ => rfl) (fun _ _ _ => rfl)
    (fun t => by rw [after2_9]; unfold Dat.blockOf iblk2; rw [A_eq2]; try rfl) t d).trans
    (by unfold Dat.fetched Dat.blockOf iblk2; rw [A_eq2]; try rfl)
theorem before2_10 (c : Dev nD) (t : Fin cfg2.N) (d) : (dat2 V c).before 10 t d = iblk2 V c 10 t :=
  ((dat2 V c).before_in_eq_fetched 10 rfl (fun _ => rfl) (fun _ _ _ => rfl)
    (fun t => by rw [after2_10]; unfold Dat.blockOf iblk2; rw [A_eq2]; try rfl) t d).trans
    (by unfold Dat.fetched Dat.blockOf iblk2; rw [A_eq2]; try rfl)
theorem before2_11 (c : Dev nD) (t : Fin cfg2.N) (d) : (dat2 V c).before 11 t d = iblk2 V c 11 t :=
  ((dat2 V c).before_in_eq_fetched 11 rfl (fun _ => rfl) (fun _ _ _ => rfl)
    (fun t => by rw [after2_11]; unfold Dat.blockOf iblk2; rw [A_eq2]; try rfl) t d).trans
    (by unfold Dat.fetched Dat.blockOf iblk2; rw [A_eq2]; try rfl)
theorem before2_12 (c : Dev nD) (t : Fin cfg2.N) (d) : (dat2 V c).before 12 t d = iblk2 V c 12 t :=
  ((dat2 V c).before_in_eq_fetched 12 rfl (fun _ => rfl) (fun _ _ _ => rfl)
    (fun t => by rw [after2_12]; unfold Dat.blockOf iblk2; rw [A_eq2]; try rfl) t d).trans
    (by unfold Dat.fetched Dat.blockOf iblk2; rw [A_eq2]; try rfl)
theorem before2_13 (c : Dev nD) (t : Fin cfg2.N) (d) : (dat2 V c).before 13 t d = iblk2 V c 13 t :=
  ((dat2 V c).before_in_eq_fetched 13 rfl (fun _ => rfl) (fun _ _ _ => rfl)
    (fun t => by rw [after2_13]; unfold Dat.blockOf iblk2; rw [A_eq2]; try rfl) t d).trans
    (by unfold Dat.fetched Dat.blockOf iblk2; rw [A_eq2]; try rfl)

theorem cond2a_iff : ∀ t : Fin grid2.N, Scalar.cmpi .ne (Scalar.extui (Scalar.cmpi .eq (BitVec.ofNat 32 (grid2.coords t 0).val) 0#32) : BitVec 32) 0#32 = 1#1 ↔ t.val = 0 := by decide +kernel
theorem cond2b_iff : ∀ t : Fin grid2.N, k2_cond2 (grid2.coords t) = 1#1 ↔ t.val = 9 := by decide +kernel
theorem live2_14 : ∀ t : Fin cfg2.N, t.val = 9 → cfg2.idle 14 (cfg2.grid.coords t) = false := by decide +kernel
theorem idle2_14 : ∀ t : Fin cfg2.N, t.val ≠ 9 → cfg2.idle 14 (cfg2.grid.coords t) = true := by decide +kernel
theorem noflush2_14 : ∀ t : Fin cfg2.N, t.val ≠ 9 → (cfg2.win 14).flush t = false := by decide +kernel

theorem leaves2_14_last (c : Dev nD) (t : Fin cfg2.N) (ht : t.val = 9) :
    (dat2 V c).leavesExact 14 t = owns (c : Thread nD τ) (st2_14 t) fullShare (outblk (accval V c t.val t.isLt) (iblk2 V c 6 t) (iblk2 V c 9 t) (iblk2 V c 10 t) (iblk2 V c 7 t) (iblk2 V c 8 t) (iblk2 V c 11 t) (iblk2 V c 12 t) (iblk2 V c 13 t)) := by
  unfold Dat.leavesExact; rw [live2_14 t ht, after2_14]

theorem leaves2_14_idle (c : Dev nD) (t : Fin cfg2.N) (ht : t.val ≠ 9) :
    (dat2 V c).leavesExact 14 t = iprop(∃ d, owns (c : Thread nD τ) (st2_14 t) fullShare ((dat2 V c).before 14 t d)) :=
  (dat2 V c).leavesExact_idle 14 t (idle2_14 t ht) (noflush2_14 t ht)

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d))
    ∗ (∃ d, owns (c : Thread nD τ) (st2_8 t) fullShare ((dat2 V c).before 8 t d))
    ∗ (∃ d, owns (c : Thread nD τ) (st2_9 t) fullShare ((dat2 V c).before 9 t d))
    ∗ (∃ d, owns (c : Thread nD τ) (st2_10 t) fullShare ((dat2 V c).before 10 t d))
    ∗ (∃ d, owns (c : Thread nD τ) (st2_11 t) fullShare ((dat2 V c).before 11 t d))
    ∗ (∃ d, owns (c : Thread nD τ) (st2_12 t) fullShare ((dat2 V c).before 12 t d))
    ∗ (∃ d, owns (c : Thread nD τ) (st2_13 t) fullShare ((dat2 V c).before 13 t d))
    ∗ (∃ d, owns (c : Thread nD τ) (st2_14 t) fullShare ((dat2 V c).before 14 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t)
    ∗ owns (c : Thread nD τ) (st2_8 t) fullShare ((dat2 V c).after 8 t)
    ∗ owns (c : Thread nD τ) (st2_9 t) fullShare ((dat2 V c).after 9 t)
    ∗ owns (c : Thread nD τ) (st2_10 t) fullShare ((dat2 V c).after 10 t)
    ∗ owns (c : Thread nD τ) (st2_11 t) fullShare ((dat2 V c).after 11 t)
    ∗ owns (c : Thread nD τ) (st2_12 t) fullShare ((dat2 V c).after 12 t)
    ∗ owns (c : Thread nD τ) (st2_13 t) fullShare ((dat2 V c).after 13 t)
    ∗ (dat2 V c).leavesExact 14 t)

set_option maxHeartbeats 16000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13]
  rw [show (dat2 V c).owesAt () t.succ = (dat2 V c).owesAt () t.castSucc from rfl,
    after2_0, after2_1, after2_2, after2_3, after2_4, after2_5, after2_6, after2_7, after2_8, after2_9, after2_10, after2_11, after2_12, after2_13]
  obtain ⟨tv, h⟩ := t
  cases tv with
  | zero =>
    have hc := (cond2a_iff ⟨0, h⟩).mpr rfl
    have hd : ¬ k2_cond2 (grid2.coords ⟨0, h⟩) = 1#1 := fun e => absurd (show (0 : ℕ) = 9 from (cond2b_iff ⟨0, h⟩).mp e) (by decide)
    rw [show (dat2 V c).Φ (Fin.castSucc ⟨0, h⟩) = Pipeline.ΦA spec2 c from rfl,
      show (dat2 V c).Φ (Fin.succ ⟨0, h⟩) = Phi2 V c 1 h from rfl, PhiA2, leaves2_14_idle V c ⟨0, h⟩ (show (0 : ℕ) ≠ 9 by decide)]
    unfold Phi2 accval
    iintro ⟨⟨⟨⟨⟨%da, HA⟩, ⟨%ds, HS⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (sound2A c Set.univ (grid2.coords ⟨0, h⟩) _ _ _ _ _ _ _ _ _ _ _ _ _ _ _ _ _ _ _ _ _ _ _ _ _ _ _ _ _ _ _ _ _ _ hc hd _ (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (iblk2 V c 6 ⟨0, h⟩) (iblk2 V c 7 ⟨0, h⟩) (iblk2 V c 8 ⟨0, h⟩) (iblk2 V c 9 ⟨0, h⟩) (iblk2 V c 10 ⟨0, h⟩) (iblk2 V c 11 ⟨0, h⟩) (iblk2 V c 12 ⟨0, h⟩) (iblk2 V c 13 ⟨0, h⟩) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [HA]; · iexists _; iexact HA
    isplitl [HS]; · iexists _; iexact HS
    iintro ⟨H0, H1, H2, H3, H4, H5, H6, H7, H8, H9, H10, H11, H12, H13, H14, HA, HS⟩
    isplitl [HA HS HR Hg]
    · isplitl [HA HS HR]
      · isplitl [HA HS]
        · isplitl [HA]; · iexact HA
          iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14
  | succ n =>
    have hc : ¬ Scalar.cmpi .ne (Scalar.extui (Scalar.cmpi .eq (BitVec.ofNat 32 (grid2.coords ⟨n + 1, h⟩ 0).val) 0#32) : BitVec 32) 0#32 = 1#1 := fun e => absurd ((cond2a_iff ⟨n + 1, h⟩).mp e) (Nat.succ_ne_zero n)
    rw [show (dat2 V c).Φ (Fin.castSucc ⟨n + 1, h⟩) = Phi2 V c (n + 1) (Nat.le_of_lt h) from rfl,
      show (dat2 V c).Φ (Fin.succ ⟨n + 1, h⟩) = Phi2 V c (n + 1 + 1) h from rfl]
    by_cases h9 : n + 1 = 9
    · have hd := (cond2b_iff ⟨n + 1, h⟩).mpr h9
      rw [leaves2_14_last V c ⟨n + 1, h⟩ h9]
      simp only [Phi2, accval]
      iintro ⟨⟨⟨⟨HA, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (sound2C c Set.univ (grid2.coords ⟨n + 1, h⟩) _ _ _ _ _ _ _ _ _ _ _ _ _ _ _ _ _ _ _ _ _ _ _ _ _ _ _ _ _ _ _ _ _ _ hc hd (aoval V c) (accval V c n (Nat.lt_of_succ_lt h)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (iblk2 V c 11 ⟨n + 1, h⟩) (iblk2 V c 12 ⟨n + 1, h⟩) (iblk2 V c 13 ⟨n + 1, h⟩) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [HA]; · iexact HA
      isplitl [HS]; · iexact HS
      iintro ⟨H0, H1, H2, H3, H4, H5, H6, H7, H8, H9, H10, H11, H12, H13, H14, HA, HS⟩
      isplitl [HA HS HR Hg]
      · isplitl [HA HS HR]
        · isplitl [HA HS]
          · isplitl [HA]; · iexact HA
            iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    · have hd : ¬ k2_cond2 (grid2.coords ⟨n + 1, h⟩) = 1#1 := fun e => h9 ((cond2b_iff ⟨n + 1, h⟩).mp e)
      rw [leaves2_14_idle V c ⟨n + 1, h⟩ h9]
      simp only [Phi2, accval]
      iintro ⟨⟨⟨⟨HA, HS⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (sound2B c Set.univ (grid2.coords ⟨n + 1, h⟩) _ _ _ _ _ _ _ _ _ _ _ _ _ _ _ _ _ _ _ _ _ _ _ _ _ _ _ _ _ _ _ _ _ _ hc hd _ (aoval V c) (accval V c n (Nat.lt_of_succ_lt h)) (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (iblk2 V c 6 ⟨n + 1, h⟩) (iblk2 V c 7 ⟨n + 1, h⟩) (iblk2 V c 8 ⟨n + 1, h⟩) (iblk2 V c 9 ⟨n + 1, h⟩) (iblk2 V c 10 ⟨n + 1, h⟩) (iblk2 V c 11 ⟨n + 1, h⟩) (iblk2 V c 12 ⟨n + 1, h⟩) (iblk2 V c 13 ⟨n + 1, h⟩) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [HA]; · iexact HA
      isplitl [HS]; · iexact HS
      iintro ⟨H0, H1, H2, H3, H4, H5, H6, H7, H8, H9, H10, H11, H12, H13, H14, HA, HS⟩
      isplitl [HA HS HR Hg]
      · isplitl [HA HS HR]
        · isplitl [HA HS]
          · isplitl [HA]; · iexact HA
            iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexists _; iexact H14

theorem hin2 (c : Dev nD) : Pipeline.ΦA spec2 c ⊢ (dat2 V c).Φ 0 := Idealize.SL.BI.Entails.refl _

theorem Phi2_out (c : Dev nD) : (n : ℕ) → (h : n ≤ cfg2.N) → Phi2 V c n h ⊢ Pipeline.ΦA spec2 c
  | 0, _ => Idealize.SL.BI.Entails.refl _
  | n + 1, h => by
    rw [PhiA2]; unfold Phi2
    iintro ⟨⟨⟨HA, HS⟩, HR⟩, Hg⟩
    isplitl [HA HS HR]
    · isplitl [HA HS]
      · isplitl [HA]
        · iexists _; iexact HA
        iexists _; iexact HS
      iexact HR
    iexact Hg

theorem hout2 (c : Dev nD) : (dat2 V c).Φ (Fin.last cfg2.N) ⊢ Pipeline.ΦA spec2 c := by
  rw [show (dat2 V c).Φ (Fin.last cfg2.N) = Phi2 V c cfg2.N (Nat.le_refl _) from rfl]
  exact Phi2_out V c _ _

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

set_option maxHeartbeats 8000000 in
/-- The body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end

end Cert.KernelIdeal.Calls

end
-- ==== Proof.RunKernelIdeal.lean ====
/- The run of the whole program: its buffers' contents after each host stretch and each call, the arguments unchanged, and
   what the result buffer holds at the end. -/
module

public import proofs.«01_k».proof.Proof.Call0KernelIdeal
public import proofs.«01_k».proof.Proof.Call1KernelIdeal
public import proofs.«01_k».proof.Proof.Call2KernelIdeal
public import Idealize.ShloMosaic.Lib.Pipeline.RegionsLoop
public import Idealize.ShloMosaic.Lib.Pipeline.FrameSuffix

@[expose] public section

set_option maxRecDepth 16384

noncomputable section

namespace Cert.KernelIdeal.Calls

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30, main_arg31]

theorem hostOps0_fresh : (hostOps0 : List (HloOp τ sig (Elt F))).Forall fun op => op.fresh = ∅ := by
  simp only [List.Forall]; repeat' constructor
/-- The references that stretch 0 writes. -/
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
/-- The references that stretch 1 writes. -/
abbrev hostOps1_W : List (Ref sig .tc) := [main_v4, main_v5, main_v6, main_v7, main_v8, main_v9, main_v10, main_v11, main_v12, main_v13, main_v14, main_v15, main_v16, main_v17, main_v18, main_v19, main_v20, main_v21]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor
/-- The references that stretch 2 writes. -/
abbrev hostOps2_W : List (Ref sig .tc) := [main_v23, main_v24, main_v25, main_v26, main_v27, main_v28, main_v29, main_v30, main_v31, main_v32]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

/-- The buffers as launched. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After stretch 0: the contents call 0 starts from. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- After call 0. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After stretch 1: the contents call 1 starts from. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- After call 1. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After stretch 2: the contents call 2 starts from. -/
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
abbrev V5 : (c : Dev nD) → (b : Ref sig .tc) → Buf (Elt F) ((c : Thread nD τ).loc b) := fun c b => W5 m ρ c b
/-- After call 2. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

abbrev adm : (p : Fin 3) → (pcfgs (F := F) p).Adm := fun p => (cfgs p).toPCfg_adm
/-- The three calls' proof data, each at the contents it starts from. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V3 m ρ) c)
    unfold Pipeline.ΦA
    iintro ⟨Hp, -, Hr⟩
    isplitl [Hr]; · iexact Hr
    iexact Hp
  hout c := by
    refine (hout1 (V3 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (V5 m ρ) c)
    unfold Pipeline.ΦA
    iintro ⟨Hp, -, Hr⟩
    isplitl [Hr]; · iexact Hr
    iexact Hp
  hout c := by
    refine (hout2 (V5 m ρ) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)), .region (reg0 m ρ),
    .host (hseg hostOps1 hostOps1_sub hostOps1_fresh (W2 m ρ)), .region (reg1 m ρ),
    .host (hseg hostOps2 hostOps2_sub hostOps2_fresh (W4 m ρ)), .region (reg2 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every weakly fair execution terminates; at the end every buffer of the program holds what the last boundary says, and
    every semaphore counter is zero. -/
theorem run_all : θ_run defs (onTc (τ := τ) (main (F := F))) ⟨m, fun _ => 0, ρ⟩ (fun r => (∀ c : Dev nD, ∀ b ∈ Pipeline.ucRefs τ sig,
      r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The arguments end unchanged, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31))
      ∧ r.2.sem = fun _ => 0) :=
  (θ_run defs _ _).mono (fun r h => ⟨fun c =>
    ⟨(h.1 c _ (mem_uc main_arg0 (by decide))).trans (W6_args m ρ c main_arg0 (by decide)),
     (h.1 c _ (mem_uc main_arg1 (by decide))).trans (W6_args m ρ c main_arg1 (by decide)),
     (h.1 c _ (mem_uc main_arg2 (by decide))).trans (W6_args m ρ c main_arg2 (by decide)),
     (h.1 c _ (mem_uc main_arg3 (by decide))).trans (W6_args m ρ c main_arg3 (by decide)),
     (h.1 c _ (mem_uc main_arg4 (by decide))).trans (W6_args m ρ c main_arg4 (by decide)),
     (h.1 c _ (mem_uc main_arg5 (by decide))).trans (W6_args m ρ c main_arg5 (by decide)),
     (h.1 c _ (mem_uc main_arg6 (by decide))).trans (W6_args m ρ c main_arg6 (by decide)),
     (h.1 c _ (mem_uc main_arg7 (by decide))).trans (W6_args m ρ c main_arg7 (by decide)),
     (h.1 c _ (mem_uc main_arg8 (by decide))).trans (W6_args m ρ c main_arg8 (by decide)),
     (h.1 c _ (mem_uc main_arg9 (by decide))).trans (W6_args m ρ c main_arg9 (by decide)),
     (h.1 c _ (mem_uc main_arg10 (by decide))).trans (W6_args m ρ c main_arg10 (by decide)),
     (h.1 c _ (mem_uc main_arg11 (by decide))).trans (W6_args m ρ c main_arg11 (by decide)),
     (h.1 c _ (mem_uc main_arg12 (by decide))).trans (W6_args m ρ c main_arg12 (by decide)),
     (h.1 c _ (mem_uc main_arg13 (by decide))).trans (W6_args m ρ c main_arg13 (by decide)),
     (h.1 c _ (mem_uc main_arg14 (by decide))).trans (W6_args m ρ c main_arg14 (by decide)),
     (h.1 c _ (mem_uc main_arg15 (by decide))).trans (W6_args m ρ c main_arg15 (by decide)),
     (h.1 c _ (mem_uc main_arg16 (by decide))).trans (W6_args m ρ c main_arg16 (by decide)),
     (h.1 c _ (mem_uc main_arg17 (by decide))).trans (W6_args m ρ c main_arg17 (by decide)),
     (h.1 c _ (mem_uc main_arg18 (by decide))).trans (W6_args m ρ c main_arg18 (by decide)),
     (h.1 c _ (mem_uc main_arg19 (by decide))).trans (W6_args m ρ c main_arg19 (by decide)),
     (h.1 c _ (mem_uc main_arg20 (by decide))).trans (W6_args m ρ c main_arg20 (by decide)),
     (h.1 c _ (mem_uc main_arg21 (by decide))).trans (W6_args m ρ c main_arg21 (by decide)),
     (h.1 c _ (mem_uc main_arg22 (by decide))).trans (W6_args m ρ c main_arg22 (by decide)),
     (h.1 c _ (mem_uc main_arg23 (by decide))).trans (W6_args m ρ c main_arg23 (by decide)),
     (h.1 c _ (mem_uc main_arg24 (by decide))).trans (W6_args m ρ c main_arg24 (by decide)),
     (h.1 c _ (mem_uc main_arg25 (by decide))).trans (W6_args m ρ c main_arg25 (by decide)),
     (h.1 c _ (mem_uc main_arg26 (by decide))).trans (W6_args m ρ c main_arg26 (by decide)),
     (h.1 c _ (mem_uc main_arg27 (by decide))).trans (W6_args m ρ c main_arg27 (by decide)),
     (h.1 c _ (mem_uc main_arg28 (by decide))).trans (W6_args m ρ c main_arg28 (by decide)),
     (h.1 c _ (mem_uc main_arg29 (by decide))).trans (W6_args m ρ c main_arg29 (by decide)),
     (h.1 c _ (mem_uc main_arg30 (by decide))).trans (W6_args m ρ c main_arg30 (by decide)),
     (h.1 c _ (mem_uc main_arg31 (by decide))).trans (W6_args m ρ c main_arg31 (by decide))⟩, h.2⟩) (run_all m ρ)

/-- What the result holds: the last call's output array. -/
theorem result : θ_run defs (onTc (τ := τ) (main (F := F))) ⟨m, fun _ => 0, ρ⟩ (fun r => ∀ c : Dev nD,
      r.2.mem ((c.tc : Thread nD τ).loc main_v33) = (dat2 (V5 m ρ) c).arrAt 14 cfg2.N) :=
  (θ_run defs _ _).mono (fun r h c => (h.1 c _ (mem_uc main_v33 (by decide))).trans (W6_arr m ρ c 14)) (run_all m ρ)

end Cert.KernelIdeal.Calls

end
-- ==== Proof.Frames.lean ====
/- The claims that need no values: each program runs, keeps its arguments and its counters; and the two named constants. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.RunKernel
public import proofs.«01_k».proof.Proof.RunKernelIdeal

@[expose] public section

set_option maxRecDepth 16384

noncomputable section

open Idealize.ShloMosaic Idealize.ShloMosaic.TcCoe Idealize.SL.Sem

namespace Cert.Proof

theorem frame_p : Cert.quiescent_Kernel := fun m ρ _ => Cert.Kernel.Calls.frame m ρ

theorem frame_pi : Cert.quiescent_KernelIdeal := fun m ρ _ => Cert.KernelIdeal.Calls.frame m ρ

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reciprocal of the number of pixels is the named one, and the mask is the named one. -/
theorem preserves : Cert.preserves_Kernel_KernelIdeal :=
  ⟨IdealRules.named_const.statement Cert.KernelIdeal.κ "inv_hw" .f32 0x37A72F05#32 ((50176⁻¹ : ℝ) : EReal) rfl,
    IdealRules.named_const.statement Cert.KernelIdeal.κ "mask" .f32 0xF149F2CA#32 ⊥ rfl⟩

end Cert.Proof

end
-- ==== Proof.Net.lean ====
/- The network's layers as functions of tables of extended reals: what both programs compute, index by index. -/
module

public import Idealize.ShloMosaic.Lib.Pointwise

@[expose] public section

set_option maxRecDepth 16384

noncomputable section

open Idealize.ShloMosaic

namespace Cert.Net

/-- A table of extended reals. -/
abbrev Mat (a b : ℕ) := Fin a → Fin b → EReal

/-- Whether pixel `k` lies between the two rounded-down box sides, as one bit. -/
def bit (lo hi : EReal) (k : Fin 224) : BitVec 1 :=
  IntOp.andi (BitVec.ofBool (decide (Ideal.liftRound Int.floor lo ≤ FloatOps.sitofp (F := Ideal) .f32 (BitVec.ofNat 32 k.val))))
    (BitVec.ofBool (decide (FloatOps.sitofp (F := Ideal) .f32 (BitVec.ofNat 32 k.val) < Ideal.liftRound Int.floor hi)))

/-- The sum of an image. -/
def total (t : Mat 224 224) : EReal := ∑ h, ∑ w, t h w

/-- The sum of the product of two images. -/
def common (o t : Mat 224 224) : EReal := ∑ h, ∑ w, o h w * t h w

/-- The sum of an image inside a box, rows outside, columns inside. -/
def inter (t : Mat 224 224) (x1 y1 x2 y2 : EReal) : EReal :=
  ∑ h, Scalar.select (bit y1 y2 h) (∑ w, Scalar.select (bit x1 x2 w) (t h w) 0) 0

/-- The number of pixels of a side. -/
def side (lo hi : EReal) : EReal := ∑ k, Scalar.select (bit lo hi k) (1 : EReal) 0

/-- The box's intersection over union with an image. -/
def iou (t : Mat 224 224) (x1 y1 x2 y2 : EReal) : EReal :=
  Ideal.div (inter t x1 y1 x2 y2)
    (side y1 y2 * side x1 x2 + total t - inter t x1 y1 x2 y2 + Ideal.ofBits .f32 0x322BCC77#32)

theorem iou_congr {t t' : Mat 224 224} {x1 x1' y1 y1' x2 x2' y2 y2' : EReal} (ht : ∀ h w, t h w = t' h w) (h1 : x1 = x1') (h2 : y1 = y1')
    (h3 : x2 = x2') (h4 : y2 = y2') : iou t x1 y1 x2 y2 = iou t' x1' y1' x2' y2' := by
  rw [show t = t' from funext fun h => funext fun w => ht h w, h1, h2, h3, h4]

theorem total_congr {t t' : Mat 224 224} (ht : ∀ h w, t h w = t' h w) : total t = total t' := by
  rw [show t = t' from funext fun h => funext fun w => ht h w]

theorem common_congr {o o' t t' : Mat 224 224} (ho : ∀ h w, o h w = o' h w) (ht : ∀ h w, t h w = t' h w) : common o t = common o' t' := by
  rw [show o = o' from funext fun h => funext fun w => ho h w, show t = t' from funext fun h => funext fun w => ht h w]

/-- A linear layer. -/
def dense {a b c : ℕ} (x : Mat a b) (w : Mat b c) (bias : Fin c → EReal) : Mat a c :=
  fun i j => (∑ k, x i k * w k j) + bias j

/-- The batch normalization of one number and the rectifier after it. -/
def bnrelu (x m v g be : EReal) : EReal :=
  max ((x - m) * Ideal.rsqrt (v + Ideal.ofBits .f32 0x3727C5AC#32) * g + be) 0

/-- The backbone's hidden layer from the pooled sums. -/
def hidden {a : ℕ} (s : Fin a → EReal) (w1 : Mat 3 2048) (b1 : Fin 2048 → EReal) : Mat a 2048 :=
  fun r k => max (s r * ((50176⁻¹ : ℝ) : EReal) * (∑ c, w1 c k) + b1 k) 0

/-- The queries from the pooled sums. -/
def queries {a : ℕ} (s : Fin a → EReal) (w1 : Mat 3 2048) (b1 : Fin 2048 → EReal) (fw : Mat 2048 1024) (fb : Fin 1024 → EReal)
    (qw : Mat 1024 1024) (qb : Fin 1024 → EReal) : Mat a 1024 :=
  dense (dense (hidden s w1 b1) fw fb) qw qb

/-- The relation vector of a batch row from its overlaps. -/
def relation (ov io : Mat 16 20) (wo wi : Mat 20 1024) (b1 m v g be : Fin 1024 → EReal) : Mat 16 1024 :=
  fun b k => bnrelu ((∑ n, ov b n * wo n k) + (∑ n, io b n * wi n k) + b1 k) (m k) (v k) (g k) (be k)

/-- The keys (or the values) of one object, from its slice of the relation layer. -/
def keys (r : Mat 16 1024) (w2 : Mat 1024 1024) (b2 : Fin 1024 → EReal) (kw : Mat 1024 1024) (kb : Fin 1024 → EReal) : Mat 16 1024 :=
  dense (dense r w2 b2) kw kb

theorem keys_congr {r r' : Mat 16 1024} {w2 w2' : Mat 1024 1024} {b2 b2' : Fin 1024 → EReal} {kw kw' : Mat 1024 1024} {kb kb' : Fin 1024 → EReal}
    (hr : ∀ b k, r b k = r' b k) (hw : ∀ k d, w2 k d = w2' k d) (hb : ∀ d, b2 d = b2' d) (hkw : ∀ k d, kw k d = kw' k d)
    (hkb : ∀ d, kb d = kb' d) (i : Fin 16) (j : Fin 1024) : keys r w2 b2 kw kb i j = keys r' w2' b2' kw' kb' i j := by
  rw [show r = r' from funext fun _ => funext fun _ => hr _ _, show w2 = w2' from funext fun _ => funext fun _ => hw _ _, show b2 = b2' from funext hb,
    show kw = kw' from funext fun _ => funext fun _ => hkw _ _, show kb = kb' from funext hkb]

theorem queries_congr {a : ℕ} {s s' : Fin a → EReal} {w1 w1' : Mat 3 2048} {b1 b1' : Fin 2048 → EReal} {fw fw' : Mat 2048 1024}
    {fb fb' : Fin 1024 → EReal} {qw qw' : Mat 1024 1024} {qb qb' : Fin 1024 → EReal}
    (hs : ∀ r, s r = s' r) (hw : ∀ k d, w1 k d = w1' k d) (hb : ∀ d, b1 d = b1' d) (hfw : ∀ k d, fw k d = fw' k d) (hfb : ∀ d, fb d = fb' d)
    (hqw : ∀ k d, qw k d = qw' k d) (hqb : ∀ d, qb d = qb' d) (i : Fin a) (j : Fin 1024) :
    queries s w1 b1 fw fb qw qb i j = queries s' w1' b1' fw' fb' qw' qb' i j := by
  rw [show s = s' from funext hs, show w1 = w1' from funext fun _ => funext fun _ => hw _ _, show b1 = b1' from funext hb,
    show fw = fw' from funext fun _ => funext fun _ => hfw _ _, show fb = fb' from funext hfb,
    show qw = qw' from funext fun _ => funext fun _ => hqw _ _, show qb = qb' from funext hqb]

theorem relation_congr {ov ov' io io' : Mat 16 20} {wo wo' wi wi' : Mat 20 1024} {b1 b1' m m' v v' g g' be be' : Fin 1024 → EReal}
    (hov : ∀ b n, ov b n = ov' b n) (hio : ∀ b n, io b n = io' b n) (hwo : ∀ n k, wo n k = wo' n k) (hwi : ∀ n k, wi n k = wi' n k)
    (hb : ∀ k, b1 k = b1' k) (hm : ∀ k, m k = m' k) (hv : ∀ k, v k = v' k) (hg : ∀ k, g k = g' k) (hbe : ∀ k, be k = be' k)
    (i : Fin 16) (j : Fin 1024) : relation ov io wo wi b1 m v g be i j = relation ov' io' wo' wi' b1' m' v' g' be' i j := by
  rw [show ov = ov' from funext fun _ => funext fun _ => hov _ _, show io = io' from funext fun _ => funext fun _ => hio _ _,
    show wo = wo' from funext fun _ => funext fun _ => hwo _ _, show wi = wi' from funext fun _ => funext fun _ => hwi _ _,
    show b1 = b1' from funext hb, show m = m' from funext hm, show v = v' from funext hv, show g = g' from funext hg, show be = be' from funext hbe]

/-- Column `d` of the `n`-th of two slices. -/
def slot2 (n : Fin 2) (d : Fin 1024) : Fin 2048 := ⟨n.val * 1024 + d.val, by omega⟩

/-- Column `d` of the `n`-th of twenty slices. -/
def slot20 (n : Fin 20) (d : Fin 1024) : Fin 20480 := ⟨n.val * 1024 + d.val, by omega⟩

/-- Column `d` of head `h`. -/
def col (h : ℕ) (hh : h < 4) (d : Fin 256) : Fin 1024 := ⟨h * 256 + d.val, by omega⟩

/-- The masked score of row `i` against row `j`: nothing across batch rows. -/
def score (q k : Mat 320 1024) (h : ℕ) (hh : h < 4) : Mat 320 320 := fun i j =>
  Scalar.select (IntOp.cmpi .eq (IntOp.andi (BitVec.ofNat 32 i.val) 15#32) (IntOp.andi (BitVec.ofNat 32 j.val) 15#32))
    ((∑ d, q i (col h hh d) * k j (col h hh d)) * Ideal.ofBits .f32 0x3D800000#32) ⊥

/-- The exponential of a score less its row's largest. -/
def weight {a b : ℕ} (s : Mat a b) : Mat a b := fun i j =>
  Ideal.exp (s i j - Finset.univ.fold max (Ideal.ofBits .f32 0xFF800000#32) fun l => s i l)

/-- The softmax of the rows of a table. -/
def soft {a b : ℕ} (s : Mat a b) : Mat a b := fun i j => Ideal.div (weight s i j) (∑ l, weight s i l)

/-- A head's context: the values weighed by the softmax of the scores. -/
def context (q k v : Mat 320 1024) (h : ℕ) (hh : h < 4) : Mat 320 256 := fun i d =>
  ∑ j, soft (score q k h hh) i j * v j (col h hh d)

/-- A head's part of the output projection. -/
def part (q k v : Mat 320 1024) (ow : Mat 1024 1024) (h : ℕ) (hh : h < 4) : Mat 320 1024 := fun i e =>
  ∑ d, context q k v h hh i d * ow (col h hh d) e

/-- The attention's output. -/
def attend (q k v : Mat 320 1024) (ow : Mat 1024 1024) (ob : Fin 1024 → EReal) : Mat 320 1024 := fun i e =>
  ob e + part q k v ow 0 (by omega) i e + part q k v ow 1 (by omega) i e + part q k v ow 2 (by omega) i e
    + part q k v ow 3 (by omega) i e

/-- The head: normalization, rectifier, last layer, and the padded objects' fixed score. -/
def head (x : Mat 16 1024) (b1 m v g be : Fin 1024 → EReal) (w2 : Mat 1024 20) (b2 : Fin 20 → EReal) (os : Mat 16 20) : Mat 16 20 :=
  fun b n => Scalar.select (BitVec.ofBool (decide (os b n = 0))) (Ideal.ofBits .f32 0xB58637BD#32)
    (dense (fun i k => bnrelu (x i k + b1 k) (m k) (v k) (g k) (be k)) w2 b2 b n)

theorem attend_congr {q q' k k' v v' : Mat 320 1024} {ow ow' : Mat 1024 1024} {ob ob' : Fin 1024 → EReal}
    (hq : ∀ i d, q i d = q' i d) (hk : ∀ i d, k i d = k' i d) (hv : ∀ i d, v i d = v' i d) (how : ∀ i d, ow i d = ow' i d) (hob : ∀ d, ob d = ob' d)
    (i : Fin 320) (e : Fin 1024) : attend q k v ow ob i e = attend q' k' v' ow' ob' i e := by
  rw [show q = q' from funext fun _ => funext fun _ => hq _ _, show k = k' from funext fun _ => funext fun _ => hk _ _,
    show v = v' from funext fun _ => funext fun _ => hv _ _, show ow = ow' from funext fun _ => funext fun _ => how _ _, show ob = ob' from funext hob]

theorem head_congr {x x' : Mat 16 1024} {b1 b1' m m' v v' g g' be be' : Fin 1024 → EReal} {w2 w2' : Mat 1024 20} {b2 b2' : Fin 20 → EReal} {os os' : Mat 16 20}
    (hx : ∀ b k, x b k = x' b k) (hb : ∀ k, b1 k = b1' k) (hm : ∀ k, m k = m' k) (hv : ∀ k, v k = v' k) (hg : ∀ k, g k = g' k) (hbe : ∀ k, be k = be' k)
    (hw : ∀ k n, w2 k n = w2' k n) (hb2 : ∀ n, b2 n = b2' n) (hos : ∀ b n, os b n = os' b n) (i : Fin 16) (j : Fin 20) :
    head x b1 m v g be w2 b2 os i j = head x' b1' m' v' g' be' w2' b2' os' i j := by
  rw [show x = x' from funext fun _ => funext fun _ => hx _ _, show b1 = b1' from funext hb, show m = m' from funext hm, show v = v' from funext hv,
    show g = g' from funext hg, show be = be' from funext hbe, show w2 = w2' from funext fun _ => funext fun _ => hw _ _, show b2 = b2' from funext hb2,
    show os = os' from funext fun _ => funext fun _ => hos _ _]

end Cert.Net

end
-- ==== Proof.Real.lean ====
/- Extended reals that are real: the sums, products and quotients that stay real, and a softmax whose masked entries are
   dropped. -/
module

public import proofs.«01_k».proof.Proof.Net

@[expose] public section

set_option maxRecDepth 16384

noncomputable section

open Idealize.ShloMosaic

namespace Cert.Net

/-- The number is real: neither infinity. -/
def IsR (x : EReal) : Prop := ∃ r : ℝ, x = (r : EReal)

theorem IsR.add {x y : EReal} : IsR x → IsR y → IsR (x + y) := by
  rintro ⟨a, rfl⟩ ⟨b, rfl⟩
  exact ⟨a + b, (EReal.coe_add a b).symm⟩

theorem IsR.sub {x y : EReal} : IsR x → IsR y → IsR (x - y) := by
  rintro ⟨a, rfl⟩ ⟨b, rfl⟩
  exact ⟨a - b, (EReal.coe_sub a b).symm⟩

theorem IsR.mul {x y : EReal} : IsR x → IsR y → IsR (x * y) := by
  rintro ⟨a, rfl⟩ ⟨b, rfl⟩
  exact ⟨a * b, (EReal.coe_mul a b).symm⟩

theorem IsR.zero : IsR 0 := ⟨0, EReal.coe_zero.symm⟩

theorem IsR.one : IsR 1 := ⟨1, EReal.coe_one.symm⟩

theorem IsR.max {x y : EReal} (hx : IsR x) (hy : IsR y) : IsR (max x y) := by
  rcases max_choice x y with h | h <;> rw [h] <;> assumption

theorem IsR.sum {ι : Type*} (s : Finset ι) {f : ι → EReal} (h : ∀ i, IsR (f i)) : IsR (∑ i ∈ s, f i) := by
  classical
  induction s using Finset.induction_on with
  | empty => rw [Finset.sum_empty]; exact IsR.zero
  | insert a s ha ih => rw [Finset.sum_insert ha]; exact (h a).add ih

theorem IsR.div {x y : EReal} (hx : IsR x) (hy : IsR y) (h0 : y ≠ 0) : IsR (Ideal.div x y) := by
  obtain ⟨b, rfl⟩ := hy
  have hb : b ≠ 0 := fun e => h0 (by rw [e, EReal.coe_zero])
  rw [Ideal.div_coe hb]
  exact hx.mul ⟨_, rfl⟩

theorem IsR.rsqrt {x : EReal} (hx : IsR x) (h0 : 0 < x) : IsR (Ideal.rsqrt x) := by
  obtain ⟨b, rfl⟩ := hx
  have hb : 0 < b := EReal.coe_pos.mp h0
  rw [Ideal.rsqrt_coe, if_neg (not_lt.mpr hb.le), if_neg hb.ne']
  exact ⟨_, rfl⟩

theorem IsR.ne_bot {x : EReal} : IsR x → x ≠ ⊥ := by
  rintro ⟨a, rfl⟩
  exact EReal.coe_ne_bot a

theorem IsR.ne_top {x : EReal} : IsR x → x ≠ ⊤ := by
  rintro ⟨a, rfl⟩
  exact EReal.coe_ne_top a

theorem IsR.of_ne {x : EReal} (h1 : x ≠ ⊥) (h2 : x ≠ ⊤) : IsR x := by
  induction x with
  | bot => exact absurd rfl h1
  | top => exact absurd rfl h2
  | coe r => exact ⟨r, rfl⟩

/-- A number whose absolute value is below the top is real. -/
theorem IsR.of_abs {x : EReal} (h : Max.max x (-x) < ⊤) : IsR x := by
  refine IsR.of_ne (fun e => ?_) (fun e => ?_)
  · rw [e, EReal.neg_bot] at h
    exact lt_irrefl _ (lt_of_le_of_lt (le_max_right _ _) h)
  · rw [e] at h
    exact lt_irrefl _ (lt_of_le_of_lt (le_max_left _ _) h)

theorem IsR.select {b : BitVec 1} {x y : EReal} (hx : IsR x) (hy : IsR y) : IsR (Scalar.select b x y) := by
  unfold Scalar.select
  split <;> assumption

/-- The sum of products is the product with the sum, for real numbers. -/
theorem sum_real_mul {ι : Type*} (s : Finset ι) (a : EReal) (f : ι → EReal) (ha : IsR a) (hf : ∀ i, IsR (f i)) :
    ∑ i ∈ s, a * f i = a * ∑ i ∈ s, f i := by
  classical
  obtain ⟨r, rfl⟩ := ha
  induction s using Finset.induction_on with
  | empty => rw [Finset.sum_empty, Finset.sum_empty, mul_zero]
  | insert i s hi ih =>
    rw [Finset.sum_insert hi, Finset.sum_insert hi, ih]
    obtain ⟨x, hx⟩ := hf i
    obtain ⟨y, hy⟩ := IsR.sum s hf
    rw [hx, hy, ← EReal.coe_mul, ← EReal.coe_mul, ← EReal.coe_add, ← EReal.coe_add, ← EReal.coe_mul, mul_add]

theorem negInf : Ideal.ofBits .f32 0xFF800000#32 = ⊥ := by simp [Ideal.ofBits, Ideal.ieee]

theorem posInf : Ideal.ofBits .f32 0x7F800000#32 = ⊤ := by simp [Ideal.ofBits, Ideal.ieee]

theorem pixels : Ideal.ofBits .f32 0x47440000#32 = ((50176 : ℝ) : EReal) := by
  simp [Ideal.ofBits, Ideal.ieee]
  rw [← EReal.coe_mul]
  norm_num

theorem sixteen : Ideal.ofBits .f32 0x41800000#32 = ((16 : ℝ) : EReal) := by
  simp [Ideal.ofBits, Ideal.ieee]
  rw [← EReal.coe_mul]
  norm_num

theorem sixteenth : Ideal.ofBits .f32 0x3D800000#32 = ((1 / 16 : ℝ) : EReal) := by
  simp [Ideal.ofBits, Ideal.ieee]
  rw [← EReal.coe_mul]
  norm_num

theorem eps_iou : ∃ r : ℝ, Ideal.ofBits .f32 0x322BCC77#32 = (r : EReal) ∧ 0 < r := by
  simp [Ideal.ofBits, Ideal.ieee]
  simp only [← EReal.coe_mul]
  exact ⟨_, rfl, by norm_num⟩

theorem eps_bn : ∃ r : ℝ, Ideal.ofBits .f32 0x3727C5AC#32 = (r : EReal) ∧ 0 < r := by
  simp [Ideal.ofBits, Ideal.ieee]
  simp only [← EReal.coe_mul]
  exact ⟨_, rfl, by norm_num⟩

/-- The largest of a row, from the bottom. -/
def top {n : ℕ} (r : Fin n → EReal) : EReal := Finset.univ.fold max (Ideal.ofBits .f32 0xFF800000#32) r

theorem top_eq {n : ℕ} (r : Fin n → EReal) : top r = Finset.univ.sup r := by
  unfold top
  rw [negInf]
  rfl

/-- A nonempty row of real numbers has one that is its largest. -/
theorem top_mem {n : ℕ} (r : Fin (n + 1) → EReal) : ∃ m, top r = r m := by
  rw [top_eq]
  obtain ⟨m, _, hm⟩ := Finset.exists_mem_eq_sup Finset.univ Finset.univ_nonempty r
  exact ⟨m, hm⟩

theorem exp_nonneg (x : EReal) : 0 ≤ Ideal.exp x := by
  induction x with
  | bot => exact le_refl _
  | top => exact le_top
  | coe r => exact EReal.coe_nonneg.mpr (Real.exp_pos r).le

/-- The sum of a softmax's weights of real scores is positive. -/
theorem weights_pos {n : ℕ} (r : Fin (n + 1) → EReal) (hr : ∀ m, IsR (r m)) : 0 < ∑ m, Ideal.exp (r m - top r) := by
  obtain ⟨m, hm⟩ := top_mem r
  refine lt_of_lt_of_le ?_ (Finset.single_le_sum (fun i _ => exp_nonneg (r i - top r)) (Finset.mem_univ m))
  rw [hm]
  obtain ⟨x, hx⟩ := hr m
  rw [hx, ← EReal.coe_sub, Ideal.exp_coe]
  exact EReal.coe_pos.mpr (Real.exp_pos _)

/-- A sum over the batch rows of all objects, of terms that vanish off one batch row. -/
theorem sum_one_row (f : Fin 320 → EReal) (b : Fin 16) (h0 : ∀ (m : Fin 20) (c : Fin 16), c ≠ b → f ⟨m.val * 16 + c.val, by omega⟩ = 0) :
    ∑ j, f j = ∑ m : Fin 20, f ⟨m.val * 16 + b.val, by omega⟩ := by
  refine (Fin.sum_univ_tiles 20 16 rfl f).trans (Finset.sum_congr rfl fun m _ => ?_)
  exact Finset.sum_eq_single b (fun c _ hc => h0 m c hc) (fun h => absurd (Finset.mem_univ b) h)

/-- The largest of a row whose entries off one batch row are the bottom. -/
theorem top_one_row (s : Fin 320 → EReal) (r : Fin 20 → EReal) (b : Fin 16)
    (hs : ∀ (m : Fin 20) (c : Fin 16), s ⟨m.val * 16 + c.val, by omega⟩ = if c = b then r m else ⊥) : top s = top r := by
  rw [top_eq, top_eq]
  refine le_antisymm (Finset.sup_le fun j _ => ?_) (Finset.sup_le fun m _ => ?_)
  · have e : j = ⟨(⟨j.val / 16, by omega⟩ : Fin 20).val * 16 + (⟨j.val % 16, by omega⟩ : Fin 16).val, by simp only []; omega⟩ := Fin.ext (by simp only []; omega)
    rw [e, hs]
    split
    · exact Finset.le_sup (f := r) (Finset.mem_univ _)
    · exact bot_le
  · have h := Finset.le_sup (f := s) (Finset.mem_univ (⟨m.val * 16 + b.val, by omega⟩ : Fin 320))
    rwa [hs, if_pos rfl] at h

/-- A masked softmax average over all objects and batch rows is the average over the one batch row. -/
theorem soft_one_row (s : Fin 320 → EReal) (r : Fin 20 → EReal) (v : Fin 320 → EReal) (b : Fin 16) (hr : ∀ m, IsR (r m))
    (hs : ∀ (m : Fin 20) (c : Fin 16), s ⟨m.val * 16 + c.val, by omega⟩ = if c = b then r m else ⊥) :
    ∑ j, Ideal.div (Ideal.exp (s j - top s)) (∑ l, Ideal.exp (s l - top s)) * v j
      = ∑ m, Ideal.div (Ideal.exp (r m - top r)) (∑ l, Ideal.exp (r l - top r)) * v ⟨m.val * 16 + b.val, by omega⟩ := by
  have hw : ∀ (m : Fin 20) (c : Fin 16), Ideal.exp (s ⟨m.val * 16 + c.val, by omega⟩ - top s) = if c = b then Ideal.exp (r m - top r) else 0 := by
    intro m c
    rw [hs, top_one_row s r b hs]
    split
    · rfl
    · rw [EReal.bot_sub, Ideal.exp_bot]
  have hd : ∑ l, Ideal.exp (s l - top s) = ∑ l, Ideal.exp (r l - top r) := by
    rw [sum_one_row _ b fun m c hc => by rw [hw, if_neg hc]]
    exact Finset.sum_congr rfl fun m _ => by rw [hw, if_pos rfl]
  have h0 : ∑ l, Ideal.exp (r l - top r) ≠ 0 := (weights_pos r hr).ne'
  rw [hd, sum_one_row _ b fun m c hc => by rw [hw, if_neg hc, Ideal.div, if_neg h0, zero_mul, zero_mul]]
  exact Finset.sum_congr rfl fun m _ => by rw [hw, if_pos rfl]

end Cert.Net

end
-- ==== Proof.Math.lean ====
/- The network from its arguments, and what in the reference differs from it index by index: the box's masks, the interleaved
   relation features, the pooled mean, the attention of one batch row. -/
module

public import proofs.«01_k».proof.Proof.Real
public import Idealize.ShloMosaic.Lib.IndicatorCount

@[expose] public section

set_option maxRecDepth 16384

noncomputable section

open Idealize.ShloMosaic

namespace Cert.Net

/-- The arguments, as tables. -/
structure Args where
  obj : Fin 16 → Fin 20 → Mat 224 224
  tgt : Fin 16 → Mat 224 224
  box : Fin 16 → Fin 20 → Fin 4 → EReal
  w1 : Mat 3 2048
  b1 : Fin 2048 → EReal
  fw : Mat 2048 1024
  fb : Fin 1024 → EReal
  e1 : Mat 40 1024
  eb1 : Fin 1024 → EReal
  eg : Fin 1024 → EReal
  ebe : Fin 1024 → EReal
  em : Fin 1024 → EReal
  ev : Fin 1024 → EReal
  e2 : Mat 1024 20480
  eb2 : Fin 20480 → EReal
  a1 : Mat 20480 1024
  ab1 : Fin 1024 → EReal
  ag : Fin 1024 → EReal
  abe : Fin 1024 → EReal
  am : Fin 1024 → EReal
  av : Fin 1024 → EReal
  a2 : Mat 1024 20
  ab2 : Fin 20 → EReal
  qw : Mat 1024 1024
  qb : Fin 1024 → EReal
  kw : Mat 1024 1024
  kb : Fin 1024 → EReal
  vw : Mat 1024 1024
  vb : Fin 1024 → EReal
  ow : Mat 1024 1024
  ob : Fin 1024 → EReal

/-- The batch row of a row of the flattened objects. -/
def bat (r : Fin 320) : Fin 16 := ⟨r.val % 16, by omega⟩

/-- The object of a row of the flattened objects. -/
def nob (r : Fin 320) : Fin 20 := ⟨r.val / 16, by omega⟩

/-- The row of object `n` of batch row `b`. -/
def at320 (n : Fin 20) (b : Fin 16) : Fin 320 := ⟨n.val * 16 + b.val, by omega⟩

theorem bat_at (n : Fin 20) (b : Fin 16) : bat (at320 n b) = b := Fin.ext (by show (n.val * 16 + b.val) % 16 = b.val; omega)

theorem nob_at (n : Fin 20) (b : Fin 16) : nob (at320 n b) = n := Fin.ext (by show (n.val * 16 + b.val) / 16 = n.val; omega)

/-- An even row of the forty. -/
def even (n : Fin 20) : Fin 40 := ⟨2 * n.val, by omega⟩

/-- An odd row of the forty. -/
def odd (n : Fin 20) : Fin 40 := ⟨2 * n.val + 1, by omega⟩

/-- A box's intersection over union with its batch row's target. -/
def ratio (a : Args) (b : Fin 16) (n : Fin 20) : EReal := iou (a.tgt b) (a.box b n 0) (a.box b n 1) (a.box b n 2) (a.box b n 3)

/-- The relation vectors. -/
def rel (a : Args) : Mat 16 1024 :=
  relation (fun b n => common (a.obj b n) (a.tgt b)) (ratio a) (fun n k => a.e1 (even n) k) (fun n k => a.e1 (odd n) k) a.eb1 a.em a.ev a.eg a.ebe

/-- The queries of all rows. -/
def qTab (a : Args) : Mat 320 1024 := queries (fun r => total (a.obj (bat r) (nob r))) a.w1 a.b1 a.fw a.fb a.qw a.qb

/-- The keys (or the values) of all rows. -/
def kvTab (a : Args) (w : Mat 1024 1024) (bias : Fin 1024 → EReal) : Mat 320 1024 := fun r d =>
  keys (rel a) (fun k d => a.e2 k (slot20 (nob r) d)) (fun d => a.eb2 (slot20 (nob r) d)) w bias (bat r) d

/-- The attention's output of all rows. -/
def att (a : Args) : Mat 320 1024 := attend (qTab a) (kvTab a a.kw a.kb) (kvTab a a.vw a.vb) a.ow a.ob

/-- The scores. -/
def out (a : Args) : Mat 16 20 :=
  head (fun b e => ∑ n, ∑ k, att a (at320 n b) k * a.a1 (slot20 n k) e) a.ab1 a.am a.av a.ag a.abe a.a2 a.ab2 (fun b n => total (a.obj b n))

/-! ## The box -/

theorem bit_cases (b : BitVec 1) : b = 0#1 ∨ b = 1#1 := by
  have := b.isLt
  rcases Nat.lt_or_ge b.toNat 1 with h | h
  · exact .inl (BitVec.eq_of_toNat_eq (by simp; omega))
  · exact .inr (BitVec.eq_of_toNat_eq (by simp; omega))

theorem select_zero {α : Type} (x y : α) : Scalar.select 0#1 x y = y := rfl
theorem select_one {α : Type} (x y : α) : Scalar.select 1#1 x y = x := rfl

theorem mask_mul (r c : BitVec 1) (t : EReal) :
    FloatOps.uitofp (F := Ideal) .f32 (IntOp.andi r c) * t = Scalar.select r (Scalar.select c t 0) 0 := by
  have h0 : FloatOps.uitofp (F := Ideal) .f32 (0#1 : BitVec 1) = (0 : EReal) := by
    show (((0#1 : BitVec 1).toNat : ℝ) : EReal) = 0
    simp
  have h1 : FloatOps.uitofp (F := Ideal) .f32 (1#1 : BitVec 1) = (1 : EReal) := by
    show (((1#1 : BitVec 1).toNat : ℝ) : EReal) = 1
    simp
  rcases bit_cases r with rfl | rfl <;> rcases bit_cases c with rfl | rfl
  · rw [show IntOp.andi 0#1 0#1 = (0#1 : BitVec 1) from rfl, h0, zero_mul]; rfl
  · rw [show IntOp.andi 0#1 1#1 = (0#1 : BitVec 1) from rfl, h0, zero_mul]; rfl
  · rw [show IntOp.andi 1#1 0#1 = (0#1 : BitVec 1) from rfl, h0, zero_mul]; rfl
  · rw [show IntOp.andi 1#1 1#1 = (1#1 : BitVec 1) from rfl, h1, one_mul]; rfl

/-- The masked sum, by one mask of both bits. -/
theorem inter_eq (t : Mat 224 224) (x1 y1 x2 y2 : EReal) :
    ∑ h, ∑ w, FloatOps.uitofp (F := Ideal) .f32 (IntOp.andi (bit y1 y2 h) (bit x1 x2 w)) * t h w = inter t x1 y1 x2 y2 := by
  refine Finset.sum_congr rfl fun h _ => ?_
  simp only [mask_mul]
  rcases bit_cases (bit y1 y2 h) with e | e
  · rw [e]; exact Finset.sum_const_zero
  · rw [e]; rfl

/-- A count of bits, as the sum of zeros and ones. -/
theorem side_eq (lo hi : EReal) :
    FloatOps.sitofp (F := Ideal) .f32 ((Finset.univ : Finset (Fin 224)).fold IntOp.addi 0#32 fun k => (bit lo hi k).setWidth 32) = side lo hi := by
  rw [IndicatorCount.fold_addi_setWidth_eq_card]
  have hle : (Finset.univ.filter fun k => bit lo hi k = 1#1).card ≤ 224 := (Finset.card_le_univ _).trans (by simp)
  have hs : side lo hi = (((Finset.univ.filter fun k => bit lo hi k = 1#1).card : ℝ) : EReal) := by
    rw [Finset.card_filter, Nat.cast_sum, side]
    have hc : ∀ s : Finset (Fin 224), ∑ k ∈ s, Scalar.select (bit lo hi k) (1 : EReal) 0
        = ((∑ k ∈ s, (((if bit lo hi k = 1#1 then 1 else 0 : ℕ)) : ℝ) : ℝ) : EReal) := by
      intro s
      induction s using Finset.induction_on with
      | empty => simp
      | insert i s hi' ih =>
        rw [Finset.sum_insert hi', Finset.sum_insert hi', ih, EReal.coe_add]
        rcases bit_cases (bit lo hi i) with e | e
        · rw [e, select_zero]; simp
        · rw [e, select_one]; simp
    exact hc _
  rw [hs]
  show (((BitVec.ofNat 32 _).toInt : ℝ) : EReal) = _
  rw [BitVec.toInt_eq_toNat_of_lt (by rw [BitVec.toNat_ofNat]; omega), BitVec.toNat_ofNat, Nat.mod_eq_of_lt (by omega)]
  norm_cast

/-! ## The relation features -/

theorem edge_eq (ov io : Fin 20 → EReal) (w : Fin 40 → EReal) :
    ∑ x : Fin 40, (if x.val % 2 < 1 then ov ⟨x.val / 2, by omega⟩ else io ⟨x.val / 2, by omega⟩) * w x
      = (∑ n, ov n * w (even n)) + ∑ n, io n * w (odd n) := by
  rw [← Finset.sum_add_distrib]
  refine (Fin.sum_univ_tiles 20 2 rfl _).trans (Finset.sum_congr rfl fun n _ => ?_)
  rw [Fin.sum_univ_two]
  have e0 : (⟨n.val * 2 + (0 : Fin 2).val, by omega⟩ : Fin 40) = even n := Fin.ext (by show n.val * 2 + 0 = 2 * n.val; omega)
  have e1 : (⟨n.val * 2 + (1 : Fin 2).val, by omega⟩ : Fin 40) = odd n := Fin.ext (by show n.val * 2 + 1 = 2 * n.val + 1; omega)
  rw [e0, e1, if_pos (by show 2 * n.val % 2 < 1; omega), if_neg (by show ¬ (2 * n.val + 1) % 2 < 1; omega)]
  congr 2
  · exact congrArg ov (Fin.ext (by show 2 * n.val / 2 = n.val; omega))
  · exact congrArg io (Fin.ext (by show (2 * n.val + 1) / 2 = n.val; omega))

/-- The relation vectors from the interleaved features. -/
theorem rel_eq (a : Args) (b : Fin 16) (k : Fin 1024) :
    rel a b k = bnrelu ((∑ x : Fin 40, (if x.val % 2 < 1 then common (a.obj b ⟨x.val / 2, by omega⟩) (a.tgt b) else ratio a b ⟨x.val / 2, by omega⟩) * a.e1 x k)
      + a.eb1 k) (a.em k) (a.ev k) (a.eg k) (a.ebe k) := by
  unfold rel relation
  rw [edge_eq (fun n => common (a.obj b n) (a.tgt b)) (ratio a b) (fun x => a.e1 x k)]

/-- The keys (or the values) of an object of a batch row. -/
theorem kv_row (a : Args) (w : Mat 1024 1024) (bias : Fin 1024 → EReal) (n : Fin 20) (b : Fin 16) (d : Fin 1024) :
    kvTab a w bias (at320 n b) d
      = (∑ x, dense (rel a) (fun k d => a.e2 k (slot20 n d)) (fun d => a.eb2 (slot20 n d)) b x * w x d) + bias d := by
  unfold kvTab
  rw [nob_at, bat_at]
  rfl

/-! ## The pooled mean -/

theorem mean_eq (s : EReal) (w : Fin 3 → EReal) (hs : IsR s) (hw : ∀ c, IsR (w c)) :
    ∑ c, Ideal.div s (Ideal.ofBits .f32 0x47440000#32) * w c = s * ((50176⁻¹ : ℝ) : EReal) * ∑ c, w c := by
  rw [pixels, Ideal.div_coe (by norm_num), one_div]
  exact sum_real_mul _ _ _ (hs.mul ⟨_, rfl⟩) hw

/-- The queries of an object of a batch row, by the mean. -/
theorem q_row (a : Args) (n : Fin 20) (b : Fin 16) (d : Fin 1024) (hs : IsR (total (a.obj b n))) (hw : ∀ c k, IsR (a.w1 c k)) :
    qTab a (at320 n b) d
      = (∑ y, ((∑ x, max ((∑ c, Ideal.div (total (a.obj b n)) (Ideal.ofBits .f32 0x47440000#32) * a.w1 c x) + a.b1 x) 0 * a.fw x y) + a.fb y) * a.qw y d) + a.qb d := by
  unfold qTab queries dense hidden
  simp only [nob_at, bat_at, mean_eq _ _ hs fun c => hw c _]

/-! ## The head's first layer -/

theorem flat_eq (f : Fin 20480 → EReal) : ∑ k, f k = ∑ n, ∑ k, f (slot20 n k) := Fin.sum_univ_tiles 20 1024 rfl f

theorem heads_eq (f : Fin 1024 → EReal) : ∑ k, f k = (∑ d, f (col 0 (by omega) d)) + (∑ d, f (col 1 (by omega) d)) + (∑ d, f (col 2 (by omega) d))
    + ∑ d, f (col 3 (by omega) d) := by
  refine (Fin.sum_univ_tiles 4 256 rfl f).trans ?_
  rw [Fin.sum_univ_four]
  rfl

/-! ## The attention -/

theorem same_row (n m : Fin 20) (b c : Fin 16) {α : Type} (x y : α) :
    Scalar.select (IntOp.cmpi .eq (IntOp.andi (BitVec.ofNat 32 (at320 n b).val) 15#32) (IntOp.andi (BitVec.ofNat 32 (at320 m c).val) 15#32)) x y
      = if c = b then x else y := by
  have h : ∀ (n : Fin 20) (b : Fin 16), IntOp.andi (BitVec.ofNat 32 (at320 n b).val) 15#32 = BitVec.ofNat 32 b.val := by
    intro n b
    refine BitVec.eq_of_toNat_eq ?_
    show (BitVec.ofNat 32 (n.val * 16 + b.val) &&& 15#32).toNat = _
    rw [BitVec.toNat_and, BitVec.toNat_ofNat, BitVec.toNat_ofNat, BitVec.toNat_ofNat, Nat.mod_eq_of_lt (by omega), Nat.mod_eq_of_lt (by omega), Nat.mod_eq_of_lt (by omega)]
    refine (Nat.and_two_pow_sub_one_eq_mod (n.val * 16 + b.val) 4).trans ?_
    omega
  rw [h, h]
  by_cases hc : c = b
  · subst hc
    rw [if_pos rfl]
    show Scalar.select (BitVec.ofBool (BitVec.ofNat 32 c.val == BitVec.ofNat 32 c.val)) x y = x
    rw [beq_self_eq_true]
    rfl
  · rw [if_neg hc]
    have hne : (BitVec.ofNat 32 b.val == BitVec.ofNat 32 c.val) = false := by
      rw [beq_eq_false_iff_ne]
      intro e
      have := congrArg BitVec.toNat e
      rw [BitVec.toNat_ofNat, BitVec.toNat_ofNat, Nat.mod_eq_of_lt (by omega), Nat.mod_eq_of_lt (by omega)] at this
      exact hc (Fin.ext this.symm)
    show Scalar.select (BitVec.ofBool (BitVec.ofNat 32 b.val == BitVec.ofNat 32 c.val)) x y = y
    rw [hne]
    rfl

/-- The scores of one batch row. -/
def rowScore (q k : Mat 320 1024) (h : ℕ) (hh : h < 4) (b : Fin 16) : Mat 20 20 := fun i j =>
  (∑ d, q (at320 i b) (col h hh d) * k (at320 j b) (col h hh d)) * Ideal.ofBits .f32 0x3D800000#32

theorem rowScore_real (q k : Mat 320 1024) (h : ℕ) (hh : h < 4) (b : Fin 16) (i j : Fin 20) (hq : ∀ r d, IsR (q r d)) (hk : ∀ r d, IsR (k r d)) :
    IsR (rowScore q k h hh b i j) :=
  (IsR.sum _ fun d => (hq _ _).mul (hk _ _)).mul (by rw [sixteenth]; exact ⟨_, rfl⟩)

/-- The context of one batch row, when the scores are real. -/
theorem context_row (q k v : Mat 320 1024) (h : ℕ) (hh : h < 4) (n : Fin 20) (b : Fin 16) (d : Fin 256) (hq : ∀ r d, IsR (q r d)) (hk : ∀ r d, IsR (k r d)) :
    context q k v h hh (at320 n b) d = ∑ j, soft (rowScore q k h hh b) n j * v (at320 j b) (col h hh d) :=
  soft_one_row (score q k h hh (at320 n b)) (rowScore q k h hh b n) (fun j => v j (col h hh d)) b (fun m => rowScore_real q k h hh b n m hq hk)
    (fun m c => (same_row n m b c _ _).trans (by
      split
      · next e => subst e; rfl
      · rfl))

/-- The attention's output in one batch row: the projection of the four contexts side by side. -/
theorem attend_row (q k v : Mat 320 1024) (ow : Mat 1024 1024) (ob : Fin 1024 → EReal) (n : Fin 20) (b : Fin 16) (e : Fin 1024)
    (hq : ∀ r d, IsR (q r d)) (hk : ∀ r d, IsR (k r d)) :
    (∑ x : Fin 1024, (∑ j, soft (rowScore q k (x.val / 256) (by omega) b) n j * v (at320 j b) x) * ow x e) + ob e
      = attend q k v ow ob (at320 n b) e := by
  have hx : ∀ (h : ℕ) (hh : h < 4) (d : Fin 256),
      (∑ j, soft (rowScore q k ((col h hh d).val / 256) (by omega) b) n j * v (at320 j b) (col h hh d)) * ow (col h hh d) e
        = context q k v h hh (at320 n b) d * ow (col h hh d) e := by
    intro h hh d
    rw [context_row q k v h hh n b d hq hk]
    have e' : (col h hh d).val / 256 = h := by show (h * 256 + d.val) / 256 = h; omega
    have hk : ∀ (h' : ℕ) (hh' : h' < 4), h' = h → soft (rowScore q k h' hh' b) n = soft (rowScore q k h hh b) n := by
      rintro h' hh' rfl
      rfl
    rw [hk _ _ e']
  rw [heads_eq]
  simp only [hx]
  unfold attend part
  rw [add_comm]
  simp only [add_assoc]

end Cert.Net

end
-- ==== Proof.Good.lean ====
/- From real arguments, the queries and the keys are real. -/
module

public import proofs.«01_k».proof.Proof.Math

@[expose] public section

set_option maxRecDepth 16384

noncomputable section

open Idealize.ShloMosaic

namespace Cert.Net

/-- What the scores are computed from is real; the target and the relation variance are not negative. -/
structure Good (a : Args) : Prop where
  obj : ∀ b n h w, IsR (a.obj b n h w)
  tgt : ∀ b h w, IsR (a.tgt b h w)
  tgt0 : ∀ b h w, 0 ≤ a.tgt b h w
  w1 : ∀ c k, IsR (a.w1 c k)
  b1 : ∀ k, IsR (a.b1 k)
  fw : ∀ k d, IsR (a.fw k d)
  fb : ∀ d, IsR (a.fb d)
  e1 : ∀ n k, IsR (a.e1 n k)
  eb1 : ∀ k, IsR (a.eb1 k)
  eg : ∀ k, IsR (a.eg k)
  ebe : ∀ k, IsR (a.ebe k)
  em : ∀ k, IsR (a.em k)
  ev : ∀ k, IsR (a.ev k)
  ev0 : ∀ k, 0 ≤ a.ev k
  e2 : ∀ k d, IsR (a.e2 k d)
  eb2 : ∀ d, IsR (a.eb2 d)
  qw : ∀ k d, IsR (a.qw k d)
  qb : ∀ d, IsR (a.qb d)
  kw : ∀ k d, IsR (a.kw k d)
  kb : ∀ d, IsR (a.kb d)

theorem dense_real {a b c : ℕ} {x : Mat a b} {w : Mat b c} {bias : Fin c → EReal} (hx : ∀ i k, IsR (x i k)) (hw : ∀ k j, IsR (w k j))
    (hb : ∀ j, IsR (bias j)) (i : Fin a) (j : Fin c) : IsR (dense x w bias i j) :=
  (IsR.sum _ fun k => (hx i k).mul (hw k j)).add (hb j)

theorem total_real {t : Mat 224 224} (h : ∀ i j, IsR (t i j)) : IsR (total t) := IsR.sum _ fun i => IsR.sum _ fun j => h i j

theorem common_real {o t : Mat 224 224} (ho : ∀ i j, IsR (o i j)) (ht : ∀ i j, IsR (t i j)) : IsR (common o t) :=
  IsR.sum _ fun i => IsR.sum _ fun j => (ho i j).mul (ht i j)

theorem inter_real {t : Mat 224 224} (h : ∀ i j, IsR (t i j)) (x1 y1 x2 y2 : EReal) : IsR (inter t x1 y1 x2 y2) :=
  IsR.sum _ fun i => IsR.select (IsR.sum _ fun j => IsR.select (h i j) IsR.zero) IsR.zero

theorem side_real (lo hi : EReal) : IsR (side lo hi) := IsR.sum _ fun k => IsR.select IsR.one IsR.zero

theorem side_nonneg (lo hi : EReal) : 0 ≤ side lo hi := by
  refine Finset.sum_nonneg fun k _ => ?_
  rcases bit_cases (bit lo hi k) with e | e <;> rw [e]
  · exact le_refl (0 : EReal)
  · exact zero_le_one

theorem select_le {b : BitVec 1} {x y : EReal} (h : 0 ≤ y) (hxy : x ≤ y) : Scalar.select b x 0 ≤ y := by
  rcases bit_cases b with rfl | rfl
  · exact h
  · exact hxy

/-- Of a target that is not negative, what lies in a box is no more than all of it. -/
theorem inter_le {t : Mat 224 224} (h : ∀ i j, 0 ≤ t i j) (x1 y1 x2 y2 : EReal) : inter t x1 y1 x2 y2 ≤ total t :=
  Finset.sum_le_sum fun i _ => select_le (Finset.sum_nonneg fun j _ => h i j) (Finset.sum_le_sum fun j _ => select_le (h i j) (le_refl _))

theorem iou_real {t : Mat 224 224} (h : ∀ i j, IsR (t i j)) (h0 : ∀ i j, 0 ≤ t i j) (x1 y1 x2 y2 : EReal) : IsR (iou t x1 y1 x2 y2) := by
  have hle := inter_le h0 x1 y1 x2 y2
  have hp1 := side_nonneg y1 y2
  have hp2 := side_nonneg x1 x2
  obtain ⟨I, hI⟩ := inter_real h x1 y1 x2 y2
  obtain ⟨T, hT⟩ := total_real h
  obtain ⟨s1, h1⟩ := side_real y1 y2
  obtain ⟨s2, h2⟩ := side_real x1 x2
  obtain ⟨e, he, he0⟩ := eps_iou
  unfold iou
  rw [hI, hT] at hle
  rw [h1] at hp1
  rw [h2] at hp2
  have hle' : I ≤ T := EReal.coe_le_coe_iff.mp hle
  have hp1' : 0 ≤ s1 := EReal.coe_nonneg.mp hp1
  have hp2' : 0 ≤ s2 := EReal.coe_nonneg.mp hp2
  rw [hI, hT, h1, h2, he, ← EReal.coe_mul, ← EReal.coe_add, ← EReal.coe_sub, ← EReal.coe_add]
  refine IsR.div ⟨_, rfl⟩ ⟨_, rfl⟩ fun hz => ?_
  have hz' : s1 * s2 + T - I + e = 0 := EReal.coe_eq_zero.mp hz
  have := mul_nonneg hp1' hp2'
  linarith

theorem bnrelu_real {x m v g be : EReal} (hx : IsR x) (hm : IsR m) (hv : IsR v) (hv0 : 0 ≤ v) (hg : IsR g) (hbe : IsR be) : IsR (bnrelu x m v g be) := by
  obtain ⟨e, he, he0⟩ := eps_bn
  unfold bnrelu
  refine IsR.max ((((hx.sub hm).mul (IsR.rsqrt ?_ ?_)).mul hg).add hbe) IsR.zero
  · rw [he]; exact hv.add ⟨_, rfl⟩
  · obtain ⟨r, rfl⟩ := hv
    have hr : 0 ≤ r := EReal.coe_nonneg.mp hv0
    rw [he, ← EReal.coe_add]
    exact EReal.coe_pos.mpr (by linarith)

theorem rel_real {a : Args} (G : Good a) (b : Fin 16) (k : Fin 1024) : IsR (rel a b k) :=
  bnrelu_real (((IsR.sum _ fun n => (common_real (G.obj b n) (G.tgt b)).mul (G.e1 _ k)).add
    (IsR.sum _ fun n => (iou_real (G.tgt b) (G.tgt0 b) _ _ _ _).mul (G.e1 _ k))).add (G.eb1 k)) (G.em k) (G.ev k) (G.ev0 k) (G.eg k) (G.ebe k)

theorem hidden_real {a : Args} (G : Good a) (r : Fin 320) (k : Fin 2048) : IsR (hidden (fun r => total (a.obj (bat r) (nob r))) a.w1 a.b1 r k) :=
  IsR.max ((((total_real (G.obj _ _)).mul ⟨_, rfl⟩).mul (IsR.sum _ fun c => G.w1 c k)).add (G.b1 k)) IsR.zero

theorem qTab_real {a : Args} (G : Good a) (r : Fin 320) (d : Fin 1024) : IsR (qTab a r d) :=
  dense_real (dense_real (hidden_real G) G.fw G.fb) G.qw G.qb r d

theorem kTab_real {a : Args} (G : Good a) (r : Fin 320) (d : Fin 1024) : IsR (kvTab a a.kw a.kb r d) :=
  dense_real (dense_real (rel_real G) (fun k d => G.e2 k _) (fun d => G.eb2 _)) G.kw G.kb (bat r) d

end Cert.Net

end
-- ==== Proof.Pay0.lean ====
/- The first call's payloads, index by index. -/
module

public import proofs.«01_k».proof.Proof.Gen.KernelIdeal.Skeleton
public import proofs.«01_k».proof.Proof.Net

@[expose] public section

set_option maxRecDepth 16384

noncomputable section

open Idealize.ShloMosaic Idealize.ShloMosaic.TcCoe Idealize.SL.Sem
open Cert.KernelIdeal Cert.KernelIdeal.Gen
namespace Cert.KernelIdeal.Pay

theorem sum_lo (x : Vec Ideal S1x20x224x224 .f32) (n : Fin 20) :
    k0_pay11 (F := Ideal) (k0_pay7 x) (ix3 0 0 n) = Net.total fun h w => x (ix4 0 n h w) := by
  pointwise [k0_pay11, k0_pay7, k0_pay4, Net.total]

theorem sum_hi (x : Vec Ideal S1x20x224x224 .f32) (n : Fin 20) :
    k0_pay1 (F := Ideal) (k0_pay17 (k0_pay14 x)) (ix3 0 0 n) = Net.total fun h w => x (ix4 0 n h w) := by
  pointwise [k0_pay1, k0_pay17, k0_pay14, Net.total]

theorem ov_lo (x : Vec Ideal S1x20x224x224 .f32) (t : Vec Ideal S1x224x224 .f32) (n : Fin 20) :
    k0_pay12 (F := Ideal) (k0_pay8 x t) (ix3 0 0 n) = Net.common (fun h w => x (ix4 0 n h w)) fun h w => t (ix3 0 h w) := by
  pointwise [k0_pay12, k0_pay8, k0_pay4, k0_pay5, Net.common]

theorem ov_hi (x : Vec Ideal S1x20x224x224 .f32) (t : Vec Ideal S1x224x224 .f32) (n : Fin 20) :
    k0_pay2 (F := Ideal) (k0_pay18 (k0_pay14 x) (k0_pay15 t)) (ix3 0 0 n)
      = Net.common (fun h w => x (ix4 0 n h w)) fun h w => t (ix3 0 h w) := by
  pointwise [k0_pay2, k0_pay18, k0_pay14, k0_pay15, Net.common]

theorem iou_lo (b : Vec Ideal S1x4x20 .f32) (t : Vec Ideal S1x224x224 .f32) (n : Fin 20) :
    k0_pay13 (F := Ideal) (k0_pay5 t) (k0_pay9 b) (k0_pay10 b) (Scalar.ofBits .f32 0x3F800000#32) (ix3 0 0 n)
      = Net.iou (fun h w => t (ix3 0 h w)) (b (ix3 0 0 n)) (b (ix3 0 1 n)) (b (ix3 0 2 n)) (b (ix3 0 3 n)) := by
  pointwise [k0_pay13, k0_pay5, k0_pay9, k0_pay10, k0_pay6, Net.iou, Net.inter, Net.side, Net.bit, Net.total]

theorem iou_hi (b : Vec Ideal S1x4x20 .f32) (t : Vec Ideal S1x224x224 .f32) (n : Fin 20) :
    k0_pay3 (F := Ideal) (k0_pay15 t) (k0_pay21 (k0_pay15 t) b) (k0_pay22 b) (ix3 0 0 n)
      = Net.iou (fun h w => t (ix3 0 h w)) (b (ix3 0 0 n)) (b (ix3 0 1 n)) (b (ix3 0 2 n)) (b (ix3 0 3 n)) := by
  pointwise [k0_pay3, k0_pay15, k0_pay19, k0_pay20, k0_pay16, k0_pay21, k0_pay22, Net.iou, Net.inter, Net.side, Net.bit, Net.total]

end Cert.KernelIdeal.Pay
end
-- ==== Proof.Val0.lean ====
/- What the first call leaves in its three result arrays. -/
module

public import proofs.«01_k».proof.Proof.Call0KernelIdeal
public import proofs.«01_k».proof.Proof.Pay0
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.KernelIdeal.Calls
namespace Cert.KernelIdeal.Val

theorem eq_unit (x : S1x1x20.Idx) : x = ix3 0 0 (x 2) := by
  idx_vars x
  idx_ext

theorem osum_at (x0 : Vec Ideal S2x20x224x224 .f32) (x1 : Vec Ideal S2x224x224 .f32) (x2 : Vec Ideal S2x4x20 .f32) (y : S2x1x20.Idx) :
    osum (F := Ideal) x0 x1 x2 y = Net.total fun h w => x0 (ix4 (y 0) (y 2) h w) := by
  unfold osum
  canon_tiles x h
  all_goals (open_payloads; pointwise [Net.total]; blk_point [])

theorem ovl_at (x0 : Vec Ideal S2x20x224x224 .f32) (x1 : Vec Ideal S2x224x224 .f32) (x2 : Vec Ideal S2x4x20 .f32) (y : S2x1x20.Idx) :
    ovl (F := Ideal) x0 x1 x2 y = Net.common (fun h w => x0 (ix4 (y 0) (y 2) h w)) fun h w => x1 (ix3 (y 0) h w) := by
  unfold ovl
  canon_tiles x h
  all_goals (open_payloads; pointwise [Net.common]; blk_point [])

theorem iouv_at (x0 : Vec Ideal S2x20x224x224 .f32) (x1 : Vec Ideal S2x224x224 .f32) (x2 : Vec Ideal S2x4x20 .f32) (y : S2x1x20.Idx) :
    iouv (F := Ideal) x0 x1 x2 y = Net.iou (fun h w => x1 (ix3 (y 0) h w)) (x2 (ix3 (y 0) 0 (y 2))) (x2 (ix3 (y 0) 1 (y 2)))
      (x2 (ix3 (y 0) 2 (y 2))) (x2 (ix3 (y 0) 3 (y 2))) := by
  unfold iouv
  canon_tiles x h
  · rw [eq_unit x]
    refine (Pay.iou_hi _ _ _).trans (Net.iou_congr (fun h w => ?_) ?_ ?_ ?_ ?_) <;> pointwise <;> blk_ext
  · rw [eq_unit x]
    refine (Pay.iou_lo _ _ _).trans (Net.iou_congr (fun h w => ?_) ?_ ?_ ?_ ?_) <;> pointwise <;> blk_ext

variable (V : (c : Dev nD) → (b : Ref sig .tc) → Buf (Elt Ideal) ((c : Thread nD τ).loc b))

theorem idx0 : ∀ t : Fin cfg0.N, win0_0.index t = ![t.val, 0, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] :=
  (by decide +kernel : ∀ t : Fin grid0.N, _)

/-- The sums of the object masks. -/
theorem final0_3 (c : Dev nD) : (dat0 V c).arrAt 3 cfg0.N = fun i : S16x1x20.Idx => Net.total fun h w =>
    (V c main_v0 : FVec Ideal S16x20x224x224 .f32) (ix4 (i 0) (i 2) h w) := by
  refine (dat0 V c).arrAt_eq_of_covers 3 _ (by decide +kernel) fun t _ y => ?_
  blk_simp
  rw [after0_3]
  refine (osum_at _ _ _ _).trans (Net.total_congr fun h w => ?_)
  blk_ext [iblk0, idx0 t]

/-- The overlaps. -/
theorem final0_4 (c : Dev nD) : (dat0 V c).arrAt 4 cfg0.N = fun i : S16x1x20.Idx => Net.common (fun h w =>
    (V c main_v0 : FVec Ideal S16x20x224x224 .f32) (ix4 (i 0) (i 2) h w)) fun h w =>
    (V c main_v1 : FVec Ideal S16x224x224 .f32) (ix3 (i 0) h w) := by
  refine (dat0 V c).arrAt_eq_of_covers 4 _ (by decide +kernel) fun t _ y => ?_
  blk_simp
  rw [after0_4]
  refine (ovl_at _ _ _ _).trans (Net.common_congr (fun h w => ?_) fun h w => ?_)
  · blk_ext [iblk0, idx0 t]
  · blk_ext [iblk0, idx0 t]

set_option maxHeartbeats 1600000 in
/-- The intersections over unions. -/
theorem final0_5 (c : Dev nD) : (dat0 V c).arrAt 5 cfg0.N = fun i : S16x1x20.Idx => Net.iou (fun h w =>
    (V c main_v1 : FVec Ideal S16x224x224 .f32) (ix3 (i 0) h w)) ((V c main_v2 : FVec Ideal S16x4x20 .f32) (ix3 (i 0) 0 (i 2)))
      ((V c main_v2 : FVec Ideal S16x4x20 .f32) (ix3 (i 0) 1 (i 2))) ((V c main_v2 : FVec Ideal S16x4x20 .f32) (ix3 (i 0) 2 (i 2)))
      ((V c main_v2 : FVec Ideal S16x4x20 .f32) (ix3 (i 0) 3 (i 2))) := by
  refine (dat0 V c).arrAt_eq_of_covers 5 _ (by decide +kernel) fun t _ y => ?_
  blk_simp
  rw [after0_5]
  refine (iouv_at _ _ _ _).trans (Net.iou_congr (fun h w => ?_) ?_ ?_ ?_ ?_) <;> blk_ext [iblk0, idx0 t]

end Cert.KernelIdeal.Val
end
-- ==== Proof.Pay1.lean ====
/- The second call's payloads, index by index. -/
module

public import proofs.«01_k».proof.Proof.Gen.KernelIdeal.Skeleton
public import proofs.«01_k».proof.Proof.Net

@[expose] public section

set_option maxRecDepth 16384

noncomputable section

open Idealize.ShloMosaic Idealize.ShloMosaic.TcCoe Idealize.SL.Sem
open Cert.KernelIdeal Cert.KernelIdeal.Gen
namespace Cert.KernelIdeal.Pay

/-- The named reciprocal of the number of pixels. -/
theorem inv_hw : Named.named (F := Ideal) κ "inv_hw" (φ := .f32) 0x37A72F05#32 = ((50176⁻¹ : ℝ) : EReal) :=
  IdealRules.named_const.ideal_named_scalar _ _ _ _ rfl

theorem query (x0 : Vec Ideal S320x1 .f32) (x1 : Vec Ideal S3x2048 .f32) (x2 : Vec Ideal S1x2048 .f32) (x3 : Vec Ideal S2048x1024 .f32)
    (x4 : Vec Ideal S1x1024 .f32) (x14 : Vec Ideal S1024x1024 .f32) (x15 : Vec Ideal S1x1024 .f32) (i : Fin 320) (j : Fin 1024) :
    k1_pay5 (F := Ideal) x0 x1 x2 x3 x4 x14 x15 (ix2 i j)
      = Net.queries (fun r => x0 (ix2 r 0)) (fun c k => x1 (ix2 c k)) (fun k => x2 (ix2 0 k)) (fun k d => x3 (ix2 k d))
        (fun d => x4 (ix2 0 d)) (fun k d => x14 (ix2 k d)) (fun d => x15 (ix2 0 d)) i j := by
  pointwise [k1_pay5, Net.queries, Net.dense, Net.hidden, inv_hw]

theorem relation (x5 : Vec Ideal S16x20 .f32) (x7 : Vec Ideal S20x1024 .f32) (x6 : Vec Ideal S16x20 .f32) (x8 : Vec Ideal S20x1024 .f32)
    (x9 x12 x13 x10 x11 : Vec Ideal S1x1024 .f32) (i : Fin 16) (j : Fin 1024) :
    k1_pay7 (F := Ideal) (k1_pay6 x5 x7 x6 x8 x9 x12 x13 x10 x11) (Scalar.ofBits .f32 0x00000000#32) (ix2 i j)
      = Net.relation (fun b n => x5 (ix2 b n)) (fun b n => x6 (ix2 b n)) (fun n k => x7 (ix2 n k)) (fun n k => x8 (ix2 n k))
        (fun k => x9 (ix2 0 k)) (fun k => x12 (ix2 0 k)) (fun k => x13 (ix2 0 k)) (fun k => x10 (ix2 0 k)) (fun k => x11 (ix2 0 k)) i j := by
  pointwise [k1_pay7, k1_pay6, Net.relation, Net.bnrelu]

theorem key_lo (xr : Vec Ideal S16x1024 .bf16) (kw w2 : Vec Ideal S1024x1024 .f32) (b2 : Vec Ideal S1x1x1024 .f32) (kb : Vec Ideal S1x1024 .f32)
    (i : Fin 16) (j : Fin 1024) :
    k1_pay11 (F := Ideal) xr kw w2 b2 kb (ix3 0 i j)
      = Net.keys (fun b k => xr (ix2 b k)) (fun k d => w2 (ix2 k d)) (fun d => b2 (ix3 0 0 d)) (fun k d => kw (ix2 k d)) (fun d => kb (ix2 0 d)) i j := by
  pointwise [k1_pay11, k1_pay10, k1_pay8, Net.keys, Net.dense]

theorem key_hi (xr : Vec Ideal S16x1024 .bf16) (kw w2 : Vec Ideal S1024x1024 .f32) (b2 : Vec Ideal S1x1x1024 .f32) (kb : Vec Ideal S1x1024 .f32)
    (i : Fin 16) (j : Fin 1024) :
    k1_pay3 (F := Ideal) xr (k1_pay8 kw) w2 b2 kb (ix3 0 i j)
      = Net.keys (fun b k => xr (ix2 b k)) (fun k d => w2 (ix2 k d)) (fun d => b2 (ix3 0 0 d)) (fun k d => kw (ix2 k d)) (fun d => kb (ix2 0 d)) i j := by
  pointwise [k1_pay3, k1_pay2, k1_pay8, Net.keys, Net.dense]

theorem value_lo (xr : Vec Ideal S16x1024 .bf16) (kw w2 : Vec Ideal S1024x1024 .f32) (b2 : Vec Ideal S1x1x1024 .f32) (kb : Vec Ideal S1x1024 .f32)
    (i : Fin 16) (j : Fin 1024) :
    k1_pay1 (F := Ideal) (k1_pay12 xr kw w2 b2 kb) (ix3 0 i j)
      = Net.keys (fun b k => xr (ix2 b k)) (fun k d => w2 (ix2 k d)) (fun d => b2 (ix3 0 0 d)) (fun k d => kw (ix2 k d)) (fun d => kb (ix2 0 d)) i j := by
  pointwise [k1_pay1, k1_pay12, k1_pay10, k1_pay9, Net.keys, Net.dense]

theorem value_hi (xr : Vec Ideal S16x1024 .bf16) (kw w2 : Vec Ideal S1024x1024 .f32) (b2 : Vec Ideal S1x1x1024 .f32) (kb : Vec Ideal S1x1024 .f32)
    (i : Fin 16) (j : Fin 1024) :
    k1_pay4 (F := Ideal) xr (k1_pay9 kw) w2 b2 kb (ix3 0 i j)
      = Net.keys (fun b k => xr (ix2 b k)) (fun k d => w2 (ix2 k d)) (fun d => b2 (ix3 0 0 d)) (fun k d => kw (ix2 k d)) (fun d => kb (ix2 0 d)) i j := by
  pointwise [k1_pay4, k1_pay2, k1_pay9, Net.keys, Net.dense]

end Cert.KernelIdeal.Pay
end
-- ==== Proof.Val1.lean ====
/- What the second call leaves in its three result arrays. -/
module

public import proofs.«01_k».proof.Proof.Call1KernelIdeal
public import proofs.«01_k».proof.Proof.Pay1
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.KernelIdeal.Calls
namespace Cert.KernelIdeal.Val

theorem qblk_at (x0 : Vec Ideal S320x1 .f32) (x1 : Vec Ideal S3x2048 .f32) (x2 : Vec Ideal S1x2048 .f32) (x3 : Vec Ideal S2048x1024 .f32)
    (x4 : Vec Ideal S1x1024 .f32) (x14 : Vec Ideal S1024x1024 .f32) (x15 : Vec Ideal S1x1024 .f32) (i : Fin 320) (j : Fin 1024) :
    qblk (F := Ideal) x0 x1 x2 x3 x4 x14 x15 (ix2 i j)
      = Net.queries (fun r => x0 (ix2 r 0)) (fun c k => x1 (ix2 c k)) (fun k => x2 (ix2 0 k)) (fun k d => x3 (ix2 k d))
        (fun d => x4 (ix2 0 d)) (fun k d => x14 (ix2 k d)) (fun d => x15 (ix2 0 d)) i j := by
  unfold qblk
  rw [View.canon_cons_unit_lit _ _ _ (by decide)]
  refine (Pay.query _ _ _ _ _ _ _ i j).trans (Net.queries_congr (fun _ => ?_) (fun _ _ => ?_) (fun _ => ?_) (fun _ _ => ?_) (fun _ => ?_) (fun _ _ => ?_)
    (fun _ => ?_) _ _) <;> pointwise <;> blk_ext

theorem rblk_at (x5 : Vec Ideal S16x20 .f32) (x7 : Vec Ideal S20x1024 .f32) (x6 : Vec Ideal S16x20 .f32) (x8 : Vec Ideal S20x1024 .f32)
    (x9 x12 x13 x10 x11 : Vec Ideal S1x1024 .f32) (i : Fin 16) (j : Fin 1024) :
    rblk (F := Ideal) x5 x7 x6 x8 x9 x12 x13 x10 x11 (ix2 i j)
      = Net.relation (fun b n => x5 (ix2 b n)) (fun b n => x6 (ix2 b n)) (fun n k => x7 (ix2 n k)) (fun n k => x8 (ix2 n k))
        (fun k => x9 (ix2 0 k)) (fun k => x12 (ix2 0 k)) (fun k => x13 (ix2 0 k)) (fun k => x10 (ix2 0 k)) (fun k => x11 (ix2 0 k)) i j := by
  unfold rblk
  rw [View.canon_cons_unit_lit _ _ _ (by decide)]
  refine (Pay.relation _ _ _ _ _ _ _ _ _ i j).trans (Net.relation_congr (fun _ _ => ?_) (fun _ _ => ?_) (fun _ _ => ?_) (fun _ _ => ?_) (fun _ => ?_) (fun _ => ?_)
    (fun _ => ?_) (fun _ => ?_) (fun _ => ?_) _ _) <;> pointwise <;> blk_ext

theorem eq_row (x : S1x16x1024.Idx) : x = ix3 0 (x 1) (x 2) := by
  idx_vars x
  idx_ext

theorem kblk_at (xr : Vec Ideal S16x1024 .bf16) (x16 : Vec Ideal S1024x2048 .f32) (x17 : Vec Ideal S2x1x1024 .f32) (x18 : Vec Ideal S1024x1024 .f32)
    (x19 : Vec Ideal S1x1024 .f32) (y : S2x16x1024.Idx) :
    kblk (F := Ideal) xr x16 x17 x18 x19 y = Net.keys (fun b k => xr (ix2 b k)) (fun k d => x16 (ix2 k (Net.slot2 (y 0) d)))
      (fun d => x17 (ix3 (y 0) 0 d)) (fun k d => x18 (ix2 k d)) (fun d => x19 (ix2 0 d)) (y 1) (y 2) := by
  unfold kblk
  canon_tiles x h
  · rw [eq_row x]
    refine (Pay.key_hi _ _ _ _ _ _ _).trans ?_
    rw [show x 1 = y 1 from Fin.ext (by omega), show x 2 = y 2 from Fin.ext (by omega)]
    refine Net.keys_congr (fun _ _ => ?_) (fun _ _ => ?_) (fun _ => ?_) (fun _ _ => ?_) (fun _ => ?_) _ _ <;> pointwise [Net.slot2] <;> blk_ext
  · rw [eq_row x]
    refine (Pay.key_lo _ _ _ _ _ _ _).trans ?_
    rw [show x 1 = y 1 from Fin.ext (by omega), show x 2 = y 2 from Fin.ext (by omega)]
    refine Net.keys_congr (fun _ _ => ?_) (fun _ _ => ?_) (fun _ => ?_) (fun _ _ => ?_) (fun _ => ?_) _ _ <;> pointwise [Net.slot2] <;> blk_ext

theorem vblk_at (xr : Vec Ideal S16x1024 .bf16) (x16 : Vec Ideal S1024x2048 .f32) (x17 : Vec Ideal S2x1x1024 .f32) (x18 : Vec Ideal S1024x1024 .f32)
    (x19 : Vec Ideal S1x1024 .f32) (y : S2x16x1024.Idx) :
    vblk (F := Ideal) xr x16 x17 x18 x19 y = Net.keys (fun b k => xr (ix2 b k)) (fun k d => x16 (ix2 k (Net.slot2 (y 0) d)))
      (fun d => x17 (ix3 (y 0) 0 d)) (fun k d => x18 (ix2 k d)) (fun d => x19 (ix2 0 d)) (y 1) (y 2) := by
  unfold vblk
  canon_tiles x h
  · rw [eq_row x]
    refine (Pay.value_hi _ _ _ _ _ _ _).trans ?_
    rw [show x 1 = y 1 from Fin.ext (by omega), show x 2 = y 2 from Fin.ext (by omega)]
    refine Net.keys_congr (fun _ _ => ?_) (fun _ _ => ?_) (fun _ => ?_) (fun _ _ => ?_) (fun _ => ?_) _ _ <;> pointwise [Net.slot2] <;> blk_ext
  · rw [eq_row x]
    refine (Pay.value_lo _ _ _ _ _ _ _).trans ?_
    rw [show x 1 = y 1 from Fin.ext (by omega), show x 2 = y 2 from Fin.ext (by omega)]
    refine Net.keys_congr (fun _ _ => ?_) (fun _ _ => ?_) (fun _ => ?_) (fun _ _ => ?_) (fun _ => ?_) _ _ <;> pointwise [Net.slot2] <;> blk_ext

variable (V : (c : Dev nD) → (b : Ref sig .tc) → Buf (Elt Ideal) ((c : Thread nD τ).loc b))

theorem at1_0 : ∀ t : Fin cfg1.N, win1_0.index t = ![0, 0] := (by decide +kernel : ∀ t : Fin grid1.N, _)
theorem at1_1 : ∀ t : Fin cfg1.N, win1_1.index t = ![0, 0] := (by decide +kernel : ∀ t : Fin grid1.N, _)
theorem at1_2 : ∀ t : Fin cfg1.N, win1_2.index t = ![0, 0] := (by decide +kernel : ∀ t : Fin grid1.N, _)
theorem at1_3 : ∀ t : Fin cfg1.N, win1_3.index t = ![0, 0] := (by decide +kernel : ∀ t : Fin grid1.N, _)
theorem at1_4 : ∀ t : Fin cfg1.N, win1_4.index t = ![0, 0] := (by decide +kernel : ∀ t : Fin grid1.N, _)
theorem at1_5 : ∀ t : Fin cfg1.N, win1_5.index t = ![0, 0] := (by decide +kernel : ∀ t : Fin grid1.N, _)
theorem at1_6 : ∀ t : Fin cfg1.N, win1_6.index t = ![0, 0] := (by decide +kernel : ∀ t : Fin grid1.N, _)
theorem at1_7 : ∀ t : Fin cfg1.N, win1_7.index t = ![0, 0] := (by decide +kernel : ∀ t : Fin grid1.N, _)
theorem at1_8 : ∀ t : Fin cfg1.N, win1_8.index t = ![0, 0] := (by decide +kernel : ∀ t : Fin grid1.N, _)
theorem at1_9 : ∀ t : Fin cfg1.N, win1_9.index t = ![0, 0] := (by decide +kernel : ∀ t : Fin grid1.N, _)
theorem at1_10 : ∀ t : Fin cfg1.N, win1_10.index t = ![0, 0] := (by decide +kernel : ∀ t : Fin grid1.N, _)
theorem at1_11 : ∀ t : Fin cfg1.N, win1_11.index t = ![0, 0] := (by decide +kernel : ∀ t : Fin grid1.N, _)
theorem at1_12 : ∀ t : Fin cfg1.N, win1_12.index t = ![0, 0] := (by decide +kernel : ∀ t : Fin grid1.N, _)
theorem at1_13 : ∀ t : Fin cfg1.N, win1_13.index t = ![0, 0] := (by decide +kernel : ∀ t : Fin grid1.N, _)
theorem at1_14 : ∀ t : Fin cfg1.N, win1_14.index t = ![0, 0] := (by decide +kernel : ∀ t : Fin grid1.N, _)
theorem at1_15 : ∀ t : Fin cfg1.N, win1_15.index t = ![0, 0] := (by decide +kernel : ∀ t : Fin grid1.N, _)
theorem at1_18 : ∀ t : Fin cfg1.N, win1_18.index t = ![0, 0] := (by decide +kernel : ∀ t : Fin grid1.N, _)
theorem at1_19 : ∀ t : Fin cfg1.N, win1_19.index t = ![0, 0] := (by decide +kernel : ∀ t : Fin grid1.N, _)
theorem at1_20 : ∀ t : Fin cfg1.N, win1_20.index t = ![0, 0] := (by decide +kernel : ∀ t : Fin grid1.N, _)
theorem at1_21 : ∀ t : Fin cfg1.N, win1_21.index t = ![0, 0] := (by decide +kernel : ∀ t : Fin grid1.N, _)
theorem at1_22 : ∀ t : Fin cfg1.N, win1_22.index t = ![0, 0] := (by decide +kernel : ∀ t : Fin grid1.N, _)

theorem idx1 : ∀ t : Fin cfg1.N, win1_16.index t = ![0, t.val] ∧ win1_17.index t = ![t.val, 0, 0] ∧ win1_23.index t = ![t.val, 0, 0]
    ∧ win1_24.index t = ![t.val, 0, 0] :=
  (by decide +kernel : ∀ t : Fin grid1.N, _)

theorem whole1_0 (c : Dev nD) (t : Fin cfg1.N) : iblk1 V c 0 t = (V c main_v6 : FVec Ideal S320x1 .f32) := by blk_ext! [iblk1, at1_0 t]
theorem whole1_1 (c : Dev nD) (t : Fin cfg1.N) : iblk1 V c 1 t = (V c main_arg4 : FVec Ideal S3x2048 .f32) := by blk_ext! [iblk1, at1_1 t]
theorem whole1_2 (c : Dev nD) (t : Fin cfg1.N) : iblk1 V c 2 t = (V c main_v7 : FVec Ideal S1x2048 .f32) := by blk_ext! [iblk1, at1_2 t]
theorem whole1_3 (c : Dev nD) (t : Fin cfg1.N) : iblk1 V c 3 t = (V c main_arg6 : FVec Ideal S2048x1024 .f32) := by blk_ext! [iblk1, at1_3 t]
theorem whole1_4 (c : Dev nD) (t : Fin cfg1.N) : iblk1 V c 4 t = (V c main_v8 : FVec Ideal S1x1024 .f32) := by blk_ext! [iblk1, at1_4 t]
theorem whole1_5 (c : Dev nD) (t : Fin cfg1.N) : iblk1 V c 5 t = (V c main_v9 : FVec Ideal S16x20 .f32) := by blk_ext! [iblk1, at1_5 t]
theorem whole1_6 (c : Dev nD) (t : Fin cfg1.N) : iblk1 V c 6 t = (V c main_v10 : FVec Ideal S16x20 .f32) := by blk_ext! [iblk1, at1_6 t]
theorem whole1_7 (c : Dev nD) (t : Fin cfg1.N) : iblk1 V c 7 t = (V c main_v11 : FVec Ideal S20x1024 .f32) := by blk_ext! [iblk1, at1_7 t]
theorem whole1_8 (c : Dev nD) (t : Fin cfg1.N) : iblk1 V c 8 t = (V c main_v12 : FVec Ideal S20x1024 .f32) := by blk_ext! [iblk1, at1_8 t]
theorem whole1_9 (c : Dev nD) (t : Fin cfg1.N) : iblk1 V c 9 t = (V c main_v13 : FVec Ideal S1x1024 .f32) := by blk_ext! [iblk1, at1_9 t]
theorem whole1_10 (c : Dev nD) (t : Fin cfg1.N) : iblk1 V c 10 t = (V c main_v14 : FVec Ideal S1x1024 .f32) := by blk_ext! [iblk1, at1_10 t]
theorem whole1_11 (c : Dev nD) (t : Fin cfg1.N) : iblk1 V c 11 t = (V c main_v15 : FVec Ideal S1x1024 .f32) := by blk_ext! [iblk1, at1_11 t]
theorem whole1_12 (c : Dev nD) (t : Fin cfg1.N) : iblk1 V c 12 t = (V c main_v16 : FVec Ideal S1x1024 .f32) := by blk_ext! [iblk1, at1_12 t]
theorem whole1_13 (c : Dev nD) (t : Fin cfg1.N) : iblk1 V c 13 t = (V c main_v17 : FVec Ideal S1x1024 .f32) := by blk_ext! [iblk1, at1_13 t]
theorem whole1_14 (c : Dev nD) (t : Fin cfg1.N) : iblk1 V c 14 t = (V c main_arg24 : FVec Ideal S1024x1024 .f32) := by blk_ext! [iblk1, at1_14 t]
theorem whole1_15 (c : Dev nD) (t : Fin cfg1.N) : iblk1 V c 15 t = (V c main_v18 : FVec Ideal S1x1024 .f32) := by blk_ext! [iblk1, at1_15 t]
theorem whole1_18 (c : Dev nD) (t : Fin cfg1.N) : iblk1 V c 18 t = (V c main_arg26 : FVec Ideal S1024x1024 .f32) := by blk_ext! [iblk1, at1_18 t]
theorem whole1_19 (c : Dev nD) (t : Fin cfg1.N) : iblk1 V c 19 t = (V c main_v20 : FVec Ideal S1x1024 .f32) := by blk_ext! [iblk1, at1_19 t]
theorem whole1_20 (c : Dev nD) (t : Fin cfg1.N) : iblk1 V c 20 t = (V c main_arg28 : FVec Ideal S1024x1024 .f32) := by blk_ext! [iblk1, at1_20 t]
theorem whole1_21 (c : Dev nD) (t : Fin cfg1.N) : iblk1 V c 21 t = (V c main_v21 : FVec Ideal S1x1024 .f32) := by blk_ext! [iblk1, at1_21 t]

/-- The relation vectors, from the arrays the call finds. -/
def relTab (c : Dev nD) : Net.Mat 16 1024 := Net.relation (fun a b => (V c main_v9 : FVec Ideal S16x20 .f32) (ix2 a b)) (fun a b => (V c main_v10 : FVec Ideal S16x20 .f32) (ix2 a b)) (fun a b => (V c main_v11 : FVec Ideal S20x1024 .f32) (ix2 a b)) (fun a b => (V c main_v12 : FVec Ideal S20x1024 .f32) (ix2 a b)) (fun b => (V c main_v13 : FVec Ideal S1x1024 .f32) (ix2 0 b)) (fun b => (V c main_v16 : FVec Ideal S1x1024 .f32) (ix2 0 b)) (fun b => (V c main_v17 : FVec Ideal S1x1024 .f32) (ix2 0 b)) (fun b => (V c main_v14 : FVec Ideal S1x1024 .f32) (ix2 0 b)) (fun b => (V c main_v15 : FVec Ideal S1x1024 .f32) (ix2 0 b))

theorem rval_at (c : Dev nD) (i : Fin 16) (j : Fin 1024) : (rval V c : FVec Ideal S16x1024 .bf16) (ix2 i j) = relTab V c i j := by
  unfold rval relTab
  rw [whole1_5, whole1_6, whole1_7, whole1_8, whole1_9, whole1_10, whole1_11, whole1_12, whole1_13]
  exact rblk_at _ _ _ _ _ _ _ _ _ i j

theorem qval_at (c : Dev nD) (i : Fin 320) (j : Fin 1024) : (qval V c : FVec Ideal S320x1024 .bf16) (ix2 i j) = Net.queries (fun r => (V c main_v6 : FVec Ideal S320x1 .f32) (ix2 r 0)) (fun a b => (V c main_arg4 : FVec Ideal S3x2048 .f32) (ix2 a b)) (fun b => (V c main_v7 : FVec Ideal S1x2048 .f32) (ix2 0 b)) (fun a b => (V c main_arg6 : FVec Ideal S2048x1024 .f32) (ix2 a b)) (fun b => (V c main_v8 : FVec Ideal S1x1024 .f32) (ix2 0 b)) (fun a b => (V c main_arg24 : FVec Ideal S1024x1024 .f32) (ix2 a b)) (fun b => (V c main_v18 : FVec Ideal S1x1024 .f32) (ix2 0 b)) i j := by
  unfold qval
  rw [whole1_0, whole1_1, whole1_2, whole1_3, whole1_4, whole1_14, whole1_15]
  exact qblk_at _ _ _ _ _ _ _ i j

/-- The queries. -/
theorem final1_22 (c : Dev nD) : (dat1 V c).arrAt 22 cfg1.N = fun i : S320x1024.Idx => Net.queries (fun r => (V c main_v6 : FVec Ideal S320x1 .f32) (ix2 r 0)) (fun a b => (V c main_arg4 : FVec Ideal S3x2048 .f32) (ix2 a b)) (fun b => (V c main_v7 : FVec Ideal S1x2048 .f32) (ix2 0 b)) (fun a b => (V c main_arg6 : FVec Ideal S2048x1024 .f32) (ix2 a b)) (fun b => (V c main_v8 : FVec Ideal S1x1024 .f32) (ix2 0 b)) (fun a b => (V c main_arg24 : FVec Ideal S1024x1024 .f32) (ix2 a b)) (fun b => (V c main_v18 : FVec Ideal S1x1024 .f32) (ix2 0 b)) (i 0) (i 1) := by
  refine (dat1 V c).arrAt_eq_of_covers 22 _ (by decide +kernel) fun t _ y => ?_
  blk_simp
  rw [after1_22]
  refine (congrArg (qval V c : FVec Ideal S320x1024 .bf16) (eq_ix2 y)).trans ((qval_at V c (y 0) (y 1)).trans (congrArg₂ _ ?_ ?_))
  · refine Fin.ext ?_
    blk_simp [at1_22 t] <;> omega
  · refine Fin.ext ?_
    blk_simp [at1_22 t] <;> omega

/-- The keys. -/
theorem final1_23 (c : Dev nD) : (dat1 V c).arrAt 23 cfg1.N = fun i : S20x16x1024.Idx => Net.keys (relTab V c) (fun k d => (V c main_arg14 : FVec Ideal S1024x20480 .f32) (ix2 k (Net.slot20 (i 0) d))) (fun d => (V c main_v19 : FVec Ideal S20x1x1024 .f32) (ix3 (i 0) 0 d)) (fun a b => (V c main_arg26 : FVec Ideal S1024x1024 .f32) (ix2 a b)) (fun b => (V c main_v20 : FVec Ideal S1x1024 .f32) (ix2 0 b)) (i 1) (i 2) := by
  refine (dat1 V c).arrAt_eq_of_covers 23 _ (by decide +kernel) fun t _ y => ?_
  blk_simp
  rw [after1_23, whole1_18, whole1_19]
  refine (kblk_at _ _ _ _ _ _).trans (Eq.trans (Net.keys_congr (fun b k => rval_at V c b k) (fun _ _ => ?_) (fun _ => ?_) (fun _ _ => rfl) (fun _ => rfl) _ _) (congrArg₂ _ ?_ ?_))
  · blk_ext [iblk1, idx1 t, Net.slot2, Net.slot20]
  · blk_ext [iblk1, idx1 t]
  · refine Fin.ext ?_
    blk_simp [idx1 t] <;> omega
  · refine Fin.ext ?_
    blk_simp [idx1 t] <;> omega

/-- The values. -/
theorem final1_24 (c : Dev nD) : (dat1 V c).arrAt 24 cfg1.N = fun i : S20x16x1024.Idx => Net.keys (relTab V c) (fun k d => (V c main_arg14 : FVec Ideal S1024x20480 .f32) (ix2 k (Net.slot20 (i 0) d))) (fun d => (V c main_v19 : FVec Ideal S20x1x1024 .f32) (ix3 (i 0) 0 d)) (fun a b => (V c main_arg28 : FVec Ideal S1024x1024 .f32) (ix2 a b)) (fun b => (V c main_v21 : FVec Ideal S1x1024 .f32) (ix2 0 b)) (i 1) (i 2) := by
  refine (dat1 V c).arrAt_eq_of_covers 24 _ (by decide +kernel) fun t _ y => ?_
  blk_simp
  rw [after1_24, whole1_20, whole1_21]
  refine (vblk_at _ _ _ _ _ _).trans (Eq.trans (Net.keys_congr (fun b k => rval_at V c b k) (fun _ _ => ?_) (fun _ => ?_) (fun _ _ => rfl) (fun _ => rfl) _ _) (congrArg₂ _ ?_ ?_))
  · blk_ext [iblk1, idx1 t, Net.slot2, Net.slot20]
  · blk_ext [iblk1, idx1 t]
  · refine Fin.ext ?_
    blk_simp [idx1 t] <;> omega
  · refine Fin.ext ?_
    blk_simp [idx1 t] <;> omega

end Cert.KernelIdeal.Val
end
-- ==== Proof.Pay2.lean ====
/- The third call's payloads, index by index. -/
module

public import proofs.«01_k».proof.Proof.Gen.KernelIdeal.Skeleton
public import proofs.«01_k».proof.Proof.Net

@[expose] public section

set_option maxRecDepth 16384

noncomputable section

open Idealize.ShloMosaic Idealize.ShloMosaic.TcCoe Idealize.SL.Sem
open Cert.KernelIdeal Cert.KernelIdeal.Gen
namespace Cert.KernelIdeal.Pay

/-- The named mask. -/
theorem mask : Named.named (F := Ideal) κ "mask" (φ := .f32) 0xF149F2CA#32 = (⊥ : EReal) :=
  IdealRules.named_const.ideal_named_scalar _ _ _ _ rfl

/-- The first head's part, over the bias. -/
theorem part0 (q k v : Vec Ideal S320x1024 .bf16) (ow : Vec Ideal S1024x1024 .f32) (ob : Vec Ideal S1x1024 .f32) (i : Fin 320) (e : Fin 1024) :
    k2_pay10 (F := Ideal) q k v ow ob (ix2 i e)
      = ob (ix2 0 e) + Net.part (fun r d => q (ix2 r d)) (fun r d => k (ix2 r d)) (fun r d => v (ix2 r d)) (fun r d => ow (ix2 r d)) 0 (by omega) i e := by
  pointwise [k2_pay10, k2_pay5, k2_pay6, k2_pay7, k2_pay8, k2_pay9, Net.part, Net.context, Net.soft, Net.weight, Net.score, Net.col, mask]

/-- The second and third heads' parts, over what came before. -/
theorem part12 (q k v : Vec Ideal S320x1024 .bf16) (ow : Vec Ideal S1024x1024 .f32) (x : FVec Ideal S320x1024 .f32) (i : Fin 320) (e : Fin 1024) :
    k2_pay11 (F := Ideal) (k2_pay5 q) (k2_pay6 k) (k2_pay7 v) (k2_pay8 ow) k2_pay9 x (ix2 i e)
      = x (ix2 i e) + Net.part (fun r d => q (ix2 r d)) (fun r d => k (ix2 r d)) (fun r d => v (ix2 r d)) (fun r d => ow (ix2 r d)) 1 (by omega) i e
        + Net.part (fun r d => q (ix2 r d)) (fun r d => k (ix2 r d)) (fun r d => v (ix2 r d)) (fun r d => ow (ix2 r d)) 2 (by omega) i e := by
  pointwise [k2_pay11, k2_pay5, k2_pay6, k2_pay7, k2_pay8, k2_pay9, Net.part, Net.context, Net.soft, Net.weight, Net.score, Net.col, mask]

/-- The fourth head's part, and the output cut by objects. -/
theorem part3 (q k v : Vec Ideal S320x1024 .bf16) (ow : Vec Ideal S1024x1024 .f32) (x : FVec Ideal S320x1024 .f32) (n : Fin 20) (b : Fin 16) (e : Fin 1024) :
    k2_pay1 (F := Ideal) (k2_pay5 q) (k2_pay6 k) (k2_pay7 v) (k2_pay8 ow) k2_pay9 x (ix3 n b e)
      = x (ix2 ⟨n.val * 16 + b.val, by omega⟩ e) + Net.part (fun r d => q (ix2 r d)) (fun r d => k (ix2 r d)) (fun r d => v (ix2 r d)) (fun r d => ow (ix2 r d)) 3 (by omega) ⟨n.val * 16 + b.val, by omega⟩ e := by
  pointwise [k2_pay1, k2_pay5, k2_pay6, k2_pay7, k2_pay8, k2_pay9, Net.part, Net.context, Net.soft, Net.weight, Net.score, Net.col, mask]

theorem acc (x : Vec Ideal S16x1024 .f32) (o1 o2 : Vec Ideal S1x16x1024 .bf16) (w1 w2 : Vec Ideal S1x1024x1024 .f32) (i : Fin 16) (j : Fin 1024) :
    k2_pay3 (F := Ideal) x o1 w1 o2 w2 (ix2 i j)
      = x (ix2 i j) + ((∑ k, o1 (ix3 0 i k) * w1 (ix3 0 k j)) + ∑ k, o2 (ix3 0 i k) * w2 (ix3 0 k j)) := by
  pointwise [k2_pay3]

theorem zero (i : Fin 16) (j : Fin 1024) : k2_pay2 (F := Ideal) (ix2 i j) = 0 := by
  pointwise [k2_pay2]

theorem head (x : Vec Ideal S16x1024 .f32) (x6 x9 x10 x7 x8 : Vec Ideal S1x1024 .f32) (x11 : Vec Ideal S1024x20 .f32) (x12 : Vec Ideal S1x20 .f32)
    (x13 : Vec Ideal S16x20 .f32) (i : Fin 16) (j : Fin 20) :
    k2_pay4 (F := Ideal) (k2_pay12 x x6 x9 x10 x7 x8 x11 x12) (k2_pay13 x13) (ix2 i j)
      = Net.head (fun b k => x (ix2 b k)) (fun k => x6 (ix2 0 k)) (fun k => x9 (ix2 0 k)) (fun k => x10 (ix2 0 k)) (fun k => x7 (ix2 0 k))
          (fun k => x8 (ix2 0 k)) (fun k n => x11 (ix2 k n)) (fun n => x12 (ix2 0 n)) (fun b n => x13 (ix2 b n)) i j := by
  pointwise [k2_pay4, k2_pay12, k2_pay13, Net.head, Net.dense, Net.bnrelu]

end Cert.KernelIdeal.Pay
end
-- ==== Proof.Val2.lean ====
/- What the third call leaves in its result array. -/
module

public import proofs.«01_k».proof.Proof.Call2KernelIdeal
public import proofs.«01_k».proof.Proof.Pay2
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.KernelIdeal.Calls
namespace Cert.KernelIdeal.Val

theorem ld_all {s : Shape} {e : EltTy} (x : Vec Ideal s e) (off : Fin s.rank → ℕ) (inb : ∀ a, off a + s.size a ≤ s.size a) (h : ∀ a, off a = 0) :
    View.ld x (Rect.unit (s := s) off s.size inb) = x := View.ld_unit_lit _ _ h

theorem aoblk_at (x0 x1 x2 : Vec Ideal S320x1024 .bf16) (x3 : Vec Ideal S1024x1024 .f32) (x4 : Vec Ideal S1x1024 .f32) (n : Fin 20) (b : Fin 16) (e : Fin 1024) :
    aoblk (F := Ideal) x0 x1 x2 x3 x4 (ix3 n b e)
      = Net.attend (fun r d => x0 (ix2 r d)) (fun r d => x1 (ix2 r d)) (fun r d => x2 (ix2 r d)) (fun r d => x3 (ix2 r d)) (fun d => x4 (ix2 0 d))
          ⟨n.val * 16 + b.val, by omega⟩ e := by
  unfold aoblk
  rw [View.canon_cons_unit_lit _ _ _ (by decide)]
  rw [ld_all x0 _ _ (by decide), ld_all x1 _ _ (by decide), ld_all x2 _ _ (by decide), ld_all x3 _ _ (by decide), ld_all x4 _ _ (by decide)]
  rw [Pay.part3, Pay.part12, Pay.part0]
  rfl

theorem off1_at : ∀ t : Fin cfg2.N, k2_off1 (grid2.coords t) = ![2 * t.val, 0, 0] := (by decide +kernel : ∀ t : Fin grid2.N, _)
theorem off2_at : ∀ t : Fin cfg2.N, k2_off2 (grid2.coords t) = ![2 * t.val + 1, 0, 0] := (by decide +kernel : ∀ t : Fin grid2.N, _)

theorem lt_ten (t : Fin cfg2.N) : t.val < 10 := t.isLt

theorem accblk_at (t : Fin cfg2.N) (xa : Vec Ideal S16x1024 .f32) (xo : Vec Ideal S20x16x1024 .bf16) (x5 : Vec Ideal S2x1024x1024 .f32) (b : Fin 16) (e : Fin 1024) :
    accblk (F := Ideal) (grid2.coords t) xa xo x5 (ix2 b e)
      = xa (ix2 b e) + ((∑ k, xo (ix3 ⟨2 * t.val, by have := lt_ten t; omega⟩ b k) * x5 (ix3 0 k e))
          + ∑ k, xo (ix3 ⟨2 * t.val + 1, by have := lt_ten t; omega⟩ b k) * x5 (ix3 1 k e)) := by
  unfold accblk
  rw [View.canon_cons_unit_lit _ _ _ (by decide), ld_all xa _ _ (by decide)]
  refine (Pay.acc _ _ _ _ _ b e).trans ?_
  unfold ao_1 ao_2 w_1 w_2
  refine congrArg (_ + ·) (congrArg₂ (· + ·) (Finset.sum_congr rfl fun k _ => congrArg₂ (· * ·) ?_ ?_) (Finset.sum_congr rfl fun k _ => congrArg₂ (· * ·) ?_ ?_)) <;>
    pointwise [off1_at t, off2_at t]

theorem zblk_at (b : Fin 16) (e : Fin 1024) : zblk (F := Ideal) (ix2 b e) = 0 := by
  unfold zblk
  rw [View.canon_cons_unit_lit _ _ _ (by decide)]
  exact Pay.zero b e

theorem outblk_at (xa : Vec Ideal S16x1024 .f32) (x6 x9 x10 x7 x8 : Vec Ideal S1x1024 .f32) (x11 : Vec Ideal S1024x20 .f32) (x12 : Vec Ideal S1x20 .f32)
    (x13 : Vec Ideal S16x20 .f32) (i : Fin 16) (j : Fin 20) :
    outblk (F := Ideal) xa x6 x9 x10 x7 x8 x11 x12 x13 (ix2 i j)
      = Net.head (fun b k => xa (ix2 b k)) (fun k => x6 (ix2 0 k)) (fun k => x9 (ix2 0 k)) (fun k => x10 (ix2 0 k)) (fun k => x7 (ix2 0 k))
          (fun k => x8 (ix2 0 k)) (fun k n => x11 (ix2 k n)) (fun n => x12 (ix2 0 n)) (fun b n => x13 (ix2 b n)) i j := by
  unfold outblk
  rw [View.canon_cons_unit_lit _ _ _ (by decide)]
  rw [ld_all xa _ _ (by decide), ld_all x6 _ _ (by decide), ld_all x9 _ _ (by decide), ld_all x10 _ _ (by decide), ld_all x7 _ _ (by decide),
    ld_all x8 _ _ (by decide), ld_all x11 _ _ (by decide), ld_all x12 _ _ (by decide), ld_all x13 _ _ (by decide)]
  exact Pay.head _ _ _ _ _ _ _ _ _ i j

variable (V : (c : Dev nD) → (b : Ref sig .tc) → Buf (Elt Ideal) ((c : Thread nD τ).loc b))

theorem at2_0 : ∀ t : Fin cfg2.N, win2_0.index t = ![0, 0] := (by decide +kernel : ∀ t : Fin grid2.N, _)
theorem at2_1 : ∀ t : Fin cfg2.N, win2_1.index t = ![0, 0] := (by decide +kernel : ∀ t : Fin grid2.N, _)
theorem at2_2 : ∀ t : Fin cfg2.N, win2_2.index t = ![0, 0] := (by decide +kernel : ∀ t : Fin grid2.N, _)
theorem at2_3 : ∀ t : Fin cfg2.N, win2_3.index t = ![0, 0] := (by decide +kernel : ∀ t : Fin grid2.N, _)
theorem at2_4 : ∀ t : Fin cfg2.N, win2_4.index t = ![0, 0] := (by decide +kernel : ∀ t : Fin grid2.N, _)
theorem at2_6 : ∀ t : Fin cfg2.N, win2_6.index t = ![0, 0] := (by decide +kernel : ∀ t : Fin grid2.N, _)
theorem at2_7 : ∀ t : Fin cfg2.N, win2_7.index t = ![0, 0] := (by decide +kernel : ∀ t : Fin grid2.N, _)
theorem at2_8 : ∀ t : Fin cfg2.N, win2_8.index t = ![0, 0] := (by decide +kernel : ∀ t : Fin grid2.N, _)
theorem at2_9 : ∀ t : Fin cfg2.N, win2_9.index t = ![0, 0] := (by decide +kernel : ∀ t : Fin grid2.N, _)
theorem at2_10 : ∀ t : Fin cfg2.N, win2_10.index t = ![0, 0] := (by decide +kernel : ∀ t : Fin grid2.N, _)
theorem at2_11 : ∀ t : Fin cfg2.N, win2_11.index t = ![0, 0] := (by decide +kernel : ∀ t : Fin grid2.N, _)
theorem at2_12 : ∀ t : Fin cfg2.N, win2_12.index t = ![0, 0] := (by decide +kernel : ∀ t : Fin grid2.N, _)
theorem at2_13 : ∀ t : Fin cfg2.N, win2_13.index t = ![0, 0] := (by decide +kernel : ∀ t : Fin grid2.N, _)
theorem at2_14 : ∀ t : Fin cfg2.N, win2_14.index t = ![0, 0] := (by decide +kernel : ∀ t : Fin grid2.N, _)
theorem at2_5 : ∀ t : Fin cfg2.N, win2_5.index t = ![t.val, 0, 0] := (by decide +kernel : ∀ t : Fin grid2.N, _)

theorem whole2_0 (c : Dev nD) (t : Fin cfg2.N) : iblk2 V c 0 t = (V c main_v22_0 : FVec Ideal S320x1024 .bf16) := by blk_ext! [iblk2, at2_0 t]
theorem whole2_1 (c : Dev nD) (t : Fin cfg2.N) : iblk2 V c 1 t = (V c main_v23 : FVec Ideal S320x1024 .bf16) := by blk_ext! [iblk2, at2_1 t]
theorem whole2_2 (c : Dev nD) (t : Fin cfg2.N) : iblk2 V c 2 t = (V c main_v24 : FVec Ideal S320x1024 .bf16) := by blk_ext! [iblk2, at2_2 t]
theorem whole2_3 (c : Dev nD) (t : Fin cfg2.N) : iblk2 V c 3 t = (V c main_arg30 : FVec Ideal S1024x1024 .f32) := by blk_ext! [iblk2, at2_3 t]
theorem whole2_4 (c : Dev nD) (t : Fin cfg2.N) : iblk2 V c 4 t = (V c main_v25 : FVec Ideal S1x1024 .f32) := by blk_ext! [iblk2, at2_4 t]
theorem whole2_6 (c : Dev nD) (t : Fin cfg2.N) : iblk2 V c 6 t = (V c main_v27 : FVec Ideal S1x1024 .f32) := by blk_ext! [iblk2, at2_6 t]
theorem whole2_7 (c : Dev nD) (t : Fin cfg2.N) : iblk2 V c 7 t = (V c main_v28 : FVec Ideal S1x1024 .f32) := by blk_ext! [iblk2, at2_7 t]
theorem whole2_8 (c : Dev nD) (t : Fin cfg2.N) : iblk2 V c 8 t = (V c main_v29 : FVec Ideal S1x1024 .f32) := by blk_ext! [iblk2, at2_8 t]
theorem whole2_9 (c : Dev nD) (t : Fin cfg2.N) : iblk2 V c 9 t = (V c main_v30 : FVec Ideal S1x1024 .f32) := by blk_ext! [iblk2, at2_9 t]
theorem whole2_10 (c : Dev nD) (t : Fin cfg2.N) : iblk2 V c 10 t = (V c main_v31 : FVec Ideal S1x1024 .f32) := by blk_ext! [iblk2, at2_10 t]
theorem whole2_11 (c : Dev nD) (t : Fin cfg2.N) : iblk2 V c 11 t = (V c main_arg22 : FVec Ideal S1024x20 .f32) := by blk_ext! [iblk2, at2_11 t]
theorem whole2_12 (c : Dev nD) (t : Fin cfg2.N) : iblk2 V c 12 t = (V c main_v32 : FVec Ideal S1x20 .f32) := by blk_ext! [iblk2, at2_12 t]
theorem whole2_13 (c : Dev nD) (t : Fin cfg2.N) : iblk2 V c 13 t = (V c main_v4 : FVec Ideal S16x20 .f32) := by blk_ext! [iblk2, at2_13 t]

theorem slice5 (c : Dev nD) (t : Fin cfg2.N) (s : Fin 2) (k e : Fin 1024) : (iblk2 V c 5 t : FVec Ideal S2x1024x1024 .f32) (ix3 s k e)
    = (V c main_v26 : FVec Ideal S20x1024x1024 .f32) (ix3 ⟨2 * t.val + s.val, by have := lt_ten t; omega⟩ k e) := by
  blk_ext [iblk2, at2_5 t]

/-- The attention's output, from the arrays the call finds. -/
def attTab (c : Dev nD) : Net.Mat 320 1024 := Net.attend (fun a b => (V c main_v22_0 : FVec Ideal S320x1024 .bf16) (ix2 a b)) (fun a b => (V c main_v23 : FVec Ideal S320x1024 .bf16) (ix2 a b)) (fun a b => (V c main_v24 : FVec Ideal S320x1024 .bf16) (ix2 a b)) (fun a b => (V c main_arg30 : FVec Ideal S1024x1024 .f32) (ix2 a b)) (fun b => (V c main_v25 : FVec Ideal S1x1024 .f32) (ix2 0 b))

theorem aoval_at (c : Dev nD) (n : Fin 20) (b : Fin 16) (e : Fin 1024) :
    (aoval V c : FVec Ideal S20x16x1024 .bf16) (ix3 n b e) = attTab V c ⟨n.val * 16 + b.val, by omega⟩ e := by
  unfold aoval attTab
  rw [whole2_0, whole2_1, whole2_2, whole2_3, whole2_4]
  exact aoblk_at _ _ _ _ _ n b e

/-- Object `n`'s part of the product with the head's first layer. -/
def share (c : Dev nD) (b : Fin 16) (e : Fin 1024) (n : Fin 20) : EReal :=
  ∑ k, attTab V c ⟨n.val * 16 + b.val, by omega⟩ k * (V c main_v26 : FVec Ideal S20x1024x1024 .f32) (ix3 n k e)

/-- The same, nothing past the last object. -/
def shareN (c : Dev nD) (b : Fin 16) (e : Fin 1024) (n : ℕ) : EReal := if h : n < 20 then share V c b e ⟨n, h⟩ else 0

theorem step_at (c : Dev nD) (t : Fin cfg2.N) (xa : Vec Ideal S16x1024 .f32) (b : Fin 16) (e : Fin 1024) :
    accblk (F := Ideal) (grid2.coords t) xa (aoval V c) (iblk2 V c 5 t) (ix2 b e)
      = xa (ix2 b e) + (shareN V c b e (2 * t.val) + shareN V c b e (2 * t.val + 1)) := by
  have ht := lt_ten t
  rw [accblk_at]
  simp only [aoval_at, slice5]
  rw [shareN, shareN, dif_pos (by omega), dif_pos (by omega)]
  rfl

theorem accval_at (c : Dev nD) (b : Fin 16) (e : Fin 1024) : (n : ℕ) → (h : n < cfg2.N) →
    (accval V c n h : FVec Ideal S16x1024 .f32) (ix2 b e) = ∑ m ∈ Finset.range (2 * n + 2), shareN V c b e m
  | 0, h => by
    refine (step_at V c ⟨0, h⟩ zblk b e).trans ?_
    rw [zblk_at, zero_add, Finset.sum_range_succ, Finset.sum_range_succ, Finset.sum_range_zero, zero_add]
    rfl
  | n + 1, h => by
    refine (step_at V c ⟨n + 1, h⟩ (accval V c n (Nat.lt_of_succ_lt h)) b e).trans ?_
    rw [accval_at c b e n (Nat.lt_of_succ_lt h), show 2 * (n + 1) + 2 = (2 * n + 2 + 1) + 1 from by omega, Finset.sum_range_succ _ (2 * n + 2 + 1), Finset.sum_range_succ _ (2 * n + 2), add_assoc]
    rfl

theorem accval_last (c : Dev nD) (b : Fin 16) (e : Fin 1024) (n : ℕ) (h : n < cfg2.N) (h9 : n = 9) :
    (accval V c n h : FVec Ideal S16x1024 .f32) (ix2 b e) = ∑ m, share V c b e m := by
  subst h9
  rw [accval_at, show 2 * 9 + 2 = 20 from rfl, Finset.sum_range]
  exact Finset.sum_congr rfl fun m _ => dif_pos m.isLt

theorem flush_last : ∀ t : Fin cfg2.N, (cfg2.win 14).flush t = true → t.val = 9 :=
  (by decide +kernel : ∀ t : Fin grid2.N, _)

/-- The scores. -/
theorem final2_14 (c : Dev nD) : (dat2 V c).arrAt 14 cfg2.N = fun i : S16x20.Idx =>
    Net.head (fun b e => ∑ n, share V c b e n) (fun b => (V c main_v27 : FVec Ideal S1x1024 .f32) (ix2 0 b)) (fun b => (V c main_v30 : FVec Ideal S1x1024 .f32) (ix2 0 b)) (fun b => (V c main_v31 : FVec Ideal S1x1024 .f32) (ix2 0 b)) (fun b => (V c main_v28 : FVec Ideal S1x1024 .f32) (ix2 0 b)) (fun b => (V c main_v29 : FVec Ideal S1x1024 .f32) (ix2 0 b)) (fun a b => (V c main_arg22 : FVec Ideal S1024x20 .f32) (ix2 a b)) (fun b => (V c main_v32 : FVec Ideal S1x20 .f32) (ix2 0 b)) (fun a b => (V c main_v4 : FVec Ideal S16x20 .f32) (ix2 a b)) (i 0) (i 1) := by
  refine (dat2 V c).arrAt_eq_of_covers 14 _ (by decide +kernel) fun t hf y => ?_
  have h9 := flush_last t hf
  blk_simp
  rw [after2_14, whole2_6, whole2_7, whole2_8, whole2_9, whole2_10, whole2_11, whole2_12, whole2_13]
  refine (congrArg _ (eq_ix2 y)).trans ((outblk_at _ _ _ _ _ _ _ _ _ (y 0) (y 1)).trans (Eq.trans (Net.head_congr (fun b e => accval_last V c b e t.val t.isLt h9)
    (fun _ => rfl) (fun _ => rfl) (fun _ => rfl) (fun _ => rfl) (fun _ => rfl) (fun _ _ => rfl) (fun _ => rfl) (fun _ _ => rfl) _ _) (congrArg₂ _ ?_ ?_)))
  · refine Fin.ext ?_
    blk_simp [at2_14 t] <;> omega
  · refine Fin.ext ?_
    blk_simp [at2_14 t] <;> omega

end Cert.KernelIdeal.Val
end
-- ==== Proof.Host.lean ====
/- What the host operations between the calls leave in their buffers, index by index. -/
module

public import proofs.«01_k».proof.Proof.RunKernelIdeal
public import proofs.«01_k».proof.Proof.Math
public import Idealize.ShloMosaic.Lib.Claim

@[expose] public section

set_option maxRecDepth 16384

noncomputable section

open Idealize.ShloMosaic Idealize.ShloMosaic.TcCoe
open Cert.KernelIdeal Cert.KernelIdeal.Gen Cert.KernelIdeal.Calls
namespace Cert.KernelIdeal.Val

variable (σ : Valuation τ sig (Elt Ideal))

theorem h0_v0 (b : Fin 16) (n : Fin 20) (h w : Fin 224) : (StableHlo.after hostOps0 σ (Proc.devRef .tc main_v0) : FVec Ideal S16x20x224x224 .f32) (ix4 b n h w)
    = (σ (Proc.devRef .tc main_arg2) : FVec Ideal S16x20x1x224x224 .f32) (ix5 b n 0 h w) := by
  entry_read
  pointwise

theorem h0_v1 (b : Fin 16) (h w : Fin 224) : (StableHlo.after hostOps0 σ (Proc.devRef .tc main_v1) : FVec Ideal S16x224x224 .f32) (ix3 b h w)
    = (σ (Proc.devRef .tc main_arg1) : FVec Ideal S16x1x224x224 .f32) (ix4 b 0 h w) := by
  entry_read
  pointwise

theorem h0_v2 (b : Fin 16) (k : Fin 4) (n : Fin 20) : (StableHlo.after hostOps0 σ (Proc.devRef .tc main_v2) : FVec Ideal S16x4x20 .f32) (ix3 b k n)
    = (σ (Proc.devRef .tc main_arg3) : FVec Ideal S16x20x4 .f32) (ix3 b n k) := by
  entry_read
  pointwise

theorem h1_v4 (b : Fin 16) (n : Fin 20) : (StableHlo.after hostOps1 σ (Proc.devRef .tc main_v4) : FVec Ideal S16x20 .f32) (ix2 b n)
    = (σ (Proc.devRef .tc main_v3_0) : FVec Ideal S16x1x20 .f32) (ix3 b 0 n) := by
  entry_read
  pointwise

theorem h1_v9 (b : Fin 16) (n : Fin 20) : (StableHlo.after hostOps1 σ (Proc.devRef .tc main_v9) : FVec Ideal S16x20 .f32) (ix2 b n)
    = (σ (Proc.devRef .tc main_v3_1) : FVec Ideal S16x1x20 .f32) (ix3 b 0 n) := by
  entry_read
  pointwise

theorem h1_v10 (b : Fin 16) (n : Fin 20) : (StableHlo.after hostOps1 σ (Proc.devRef .tc main_v10) : FVec Ideal S16x20 .f32) (ix2 b n)
    = (σ (Proc.devRef .tc main_v3_2) : FVec Ideal S16x1x20 .f32) (ix3 b 0 n) := by
  entry_read
  pointwise

theorem h1_v6 (r : Fin 320) : (StableHlo.after hostOps1 σ (Proc.devRef .tc main_v6) : FVec Ideal S320x1 .f32) (ix2 r 0)
    = (σ (Proc.devRef .tc main_v3_0) : FVec Ideal S16x1x20 .f32) (ix3 (Net.bat r) 0 (Net.nob r)) := by
  entry_read
  pointwise
  rfl

theorem h1_v7 (i : Fin 2048) : (StableHlo.after hostOps1 σ (Proc.devRef .tc main_v7) : FVec Ideal S1x2048 .f32) (ix2 0 i)
    = (σ (Proc.devRef .tc main_arg5) : FVec Ideal S2048 .f32) (ix1 i) := by
  entry_read
  pointwise

theorem h1_v8 (i : Fin 1024) : (StableHlo.after hostOps1 σ (Proc.devRef .tc main_v8) : FVec Ideal S1x1024 .f32) (ix2 0 i)
    = (σ (Proc.devRef .tc main_arg7) : FVec Ideal S1024 .f32) (ix1 i) := by
  entry_read
  pointwise

theorem h1_v13 (i : Fin 1024) : (StableHlo.after hostOps1 σ (Proc.devRef .tc main_v13) : FVec Ideal S1x1024 .f32) (ix2 0 i)
    = (σ (Proc.devRef .tc main_arg9) : FVec Ideal S1024 .f32) (ix1 i) := by
  entry_read
  pointwise

theorem h1_v14 (i : Fin 1024) : (StableHlo.after hostOps1 σ (Proc.devRef .tc main_v14) : FVec Ideal S1x1024 .f32) (ix2 0 i)
    = (σ (Proc.devRef .tc main_arg10) : FVec Ideal S1024 .f32) (ix1 i) := by
  entry_read
  pointwise

theorem h1_v15 (i : Fin 1024) : (StableHlo.after hostOps1 σ (Proc.devRef .tc main_v15) : FVec Ideal S1x1024 .f32) (ix2 0 i)
    = (σ (Proc.devRef .tc main_arg11) : FVec Ideal S1024 .f32) (ix1 i) := by
  entry_read
  pointwise

theorem h1_v16 (i : Fin 1024) : (StableHlo.after hostOps1 σ (Proc.devRef .tc main_v16) : FVec Ideal S1x1024 .f32) (ix2 0 i)
    = (σ (Proc.devRef .tc main_arg12) : FVec Ideal S1024 .f32) (ix1 i) := by
  entry_read
  pointwise

theorem h1_v17 (i : Fin 1024) : (StableHlo.after hostOps1 σ (Proc.devRef .tc main_v17) : FVec Ideal S1x1024 .f32) (ix2 0 i)
    = (σ (Proc.devRef .tc main_arg13) : FVec Ideal S1024 .f32) (ix1 i) := by
  entry_read
  pointwise

theorem h1_v18 (i : Fin 1024) : (StableHlo.after hostOps1 σ (Proc.devRef .tc main_v18) : FVec Ideal S1x1024 .f32) (ix2 0 i)
    = (σ (Proc.devRef .tc main_arg25) : FVec Ideal S1024 .f32) (ix1 i) := by
  entry_read
  pointwise

theorem h1_v20 (i : Fin 1024) : (StableHlo.after hostOps1 σ (Proc.devRef .tc main_v20) : FVec Ideal S1x1024 .f32) (ix2 0 i)
    = (σ (Proc.devRef .tc main_arg27) : FVec Ideal S1024 .f32) (ix1 i) := by
  entry_read
  pointwise

theorem h1_v21 (i : Fin 1024) : (StableHlo.after hostOps1 σ (Proc.devRef .tc main_v21) : FVec Ideal S1x1024 .f32) (ix2 0 i)
    = (σ (Proc.devRef .tc main_arg29) : FVec Ideal S1024 .f32) (ix1 i) := by
  entry_read
  pointwise

theorem h1_v11 (n : Fin 20) (k : Fin 1024) : (StableHlo.after hostOps1 σ (Proc.devRef .tc main_v11) : FVec Ideal S20x1024 .f32) (ix2 n k)
    = (σ (Proc.devRef .tc main_arg8) : FVec Ideal S40x1024 .f32) (ix2 (Net.even n) k) := by
  entry_read
  pointwise
  rfl

theorem h1_v12 (n : Fin 20) (k : Fin 1024) : (StableHlo.after hostOps1 σ (Proc.devRef .tc main_v12) : FVec Ideal S20x1024 .f32) (ix2 n k)
    = (σ (Proc.devRef .tc main_arg8) : FVec Ideal S40x1024 .f32) (ix2 (Net.odd n) k) := by
  entry_read
  pointwise
  exact congrArg (fun q => σ (Proc.devRef .tc main_arg8) (ix2 q k)) (Fin.ext (by show 1 + 2 * n.val = 2 * n.val + 1; omega))

theorem h1_v19 (n : Fin 20) (d : Fin 1024) : (StableHlo.after hostOps1 σ (Proc.devRef .tc main_v19) : FVec Ideal S20x1x1024 .f32) (ix3 n 0 d)
    = (σ (Proc.devRef .tc main_arg15) : FVec Ideal S20480 .f32) (ix1 (Net.slot20 n d)) := by
  entry_read
  pointwise
  rfl

theorem h2_v23 (r : Fin 320) (d : Fin 1024) : (StableHlo.after hostOps2 σ (Proc.devRef .tc main_v23) : FVec Ideal S320x1024 .bf16) (ix2 r d)
    = (σ (Proc.devRef .tc main_v22_1) : FVec Ideal S20x16x1024 .bf16) (ix3 (Net.nob r) (Net.bat r) d) := by
  entry_read
  pointwise
  rfl

theorem h2_v24 (r : Fin 320) (d : Fin 1024) : (StableHlo.after hostOps2 σ (Proc.devRef .tc main_v24) : FVec Ideal S320x1024 .bf16) (ix2 r d)
    = (σ (Proc.devRef .tc main_v22_2) : FVec Ideal S20x16x1024 .bf16) (ix3 (Net.nob r) (Net.bat r) d) := by
  entry_read
  pointwise
  rfl

theorem h2_v25 (i : Fin 1024) : (StableHlo.after hostOps2 σ (Proc.devRef .tc main_v25) : FVec Ideal S1x1024 .f32) (ix2 0 i)
    = (σ (Proc.devRef .tc main_arg31) : FVec Ideal S1024 .f32) (ix1 i) := by
  entry_read
  pointwise

theorem h2_v27 (i : Fin 1024) : (StableHlo.after hostOps2 σ (Proc.devRef .tc main_v27) : FVec Ideal S1x1024 .f32) (ix2 0 i)
    = (σ (Proc.devRef .tc main_arg17) : FVec Ideal S1024 .f32) (ix1 i) := by
  entry_read
  pointwise

theorem h2_v28 (i : Fin 1024) : (StableHlo.after hostOps2 σ (Proc.devRef .tc main_v28) : FVec Ideal S1x1024 .f32) (ix2 0 i)
    = (σ (Proc.devRef .tc main_arg18) : FVec Ideal S1024 .f32) (ix1 i) := by
  entry_read
  pointwise

theorem h2_v29 (i : Fin 1024) : (StableHlo.after hostOps2 σ (Proc.devRef .tc main_v29) : FVec Ideal S1x1024 .f32) (ix2 0 i)
    = (σ (Proc.devRef .tc main_arg19) : FVec Ideal S1024 .f32) (ix1 i) := by
  entry_read
  pointwise

theorem h2_v30 (i : Fin 1024) : (StableHlo.after hostOps2 σ (Proc.devRef .tc main_v30) : FVec Ideal S1x1024 .f32) (ix2 0 i)
    = (σ (Proc.devRef .tc main_arg20) : FVec Ideal S1024 .f32) (ix1 i) := by
  entry_read
  pointwise

theorem h2_v31 (i : Fin 1024) : (StableHlo.after hostOps2 σ (Proc.devRef .tc main_v31) : FVec Ideal S1x1024 .f32) (ix2 0 i)
    = (σ (Proc.devRef .tc main_arg21) : FVec Ideal S1024 .f32) (ix1 i) := by
  entry_read
  pointwise

theorem h2_v26 (n : Fin 20) (k e : Fin 1024) : (StableHlo.after hostOps2 σ (Proc.devRef .tc main_v26) : FVec Ideal S20x1024x1024 .f32) (ix3 n k e)
    = (σ (Proc.devRef .tc main_arg16) : FVec Ideal S20480x1024 .f32) (ix2 (Net.slot20 n k) e) := by
  entry_read
  pointwise
  rfl

theorem h2_v32 (i : Fin 20) : (StableHlo.after hostOps2 σ (Proc.devRef .tc main_v32) : FVec Ideal S1x20 .f32) (ix2 0 i)
    = (σ (Proc.devRef .tc main_arg23) : FVec Ideal S20 .f32) (ix1 i) := by
  entry_read
  pointwise

end Cert.KernelIdeal.Val
end
-- ==== Proof.KV.lean ====
/- What the kernel's result holds: the network's scores of its arguments. -/
module

public import proofs.«01_k».proof.Proof.Val0
public import proofs.«01_k».proof.Proof.Val1
public import proofs.«01_k».proof.Proof.Val2
public import proofs.«01_k».proof.Proof.Host

@[expose] public section

set_option maxRecDepth 16384
set_option maxHeartbeats 1600000

noncomputable section

open Idealize.ShloMosaic Idealize.ShloMosaic.TcCoe Idealize.SL.Sem
open Cert.KernelIdeal Cert.KernelIdeal.Gen Cert.KernelIdeal.Calls
namespace Cert.KernelIdeal.Val

variable (m : (ℓ : Loc nD τ sig) → Buf (Elt Ideal) ℓ) (ρ : Dev nD → PrngReg)

/-- The arguments' tables, from the contents of the memory. -/
def kargs (c : Dev nD) : Net.Args where
  obj := fun b n h w => (m ((c.tc : Thread nD τ).loc main_arg2) : FVec Ideal S16x20x1x224x224 .f32) (ix5 b n 0 h w)
  tgt := fun b h w => (m ((c.tc : Thread nD τ).loc main_arg1) : FVec Ideal S16x1x224x224 .f32) (ix4 b 0 h w)
  box := fun b n k => (m ((c.tc : Thread nD τ).loc main_arg3) : FVec Ideal S16x20x4 .f32) (ix3 b n k)
  w1 := fun i j => (m ((c.tc : Thread nD τ).loc main_arg4) : FVec Ideal S3x2048 .f32) (ix2 i j)
  b1 := fun i => (m ((c.tc : Thread nD τ).loc main_arg5) : FVec Ideal S2048 .f32) (ix1 i)
  fw := fun i j => (m ((c.tc : Thread nD τ).loc main_arg6) : FVec Ideal S2048x1024 .f32) (ix2 i j)
  fb := fun i => (m ((c.tc : Thread nD τ).loc main_arg7) : FVec Ideal S1024 .f32) (ix1 i)
  e1 := fun i j => (m ((c.tc : Thread nD τ).loc main_arg8) : FVec Ideal S40x1024 .f32) (ix2 i j)
  eb1 := fun i => (m ((c.tc : Thread nD τ).loc main_arg9) : FVec Ideal S1024 .f32) (ix1 i)
  eg := fun i => (m ((c.tc : Thread nD τ).loc main_arg10) : FVec Ideal S1024 .f32) (ix1 i)
  ebe := fun i => (m ((c.tc : Thread nD τ).loc main_arg11) : FVec Ideal S1024 .f32) (ix1 i)
  em := fun i => (m ((c.tc : Thread nD τ).loc main_arg12) : FVec Ideal S1024 .f32) (ix1 i)
  ev := fun i => (m ((c.tc : Thread nD τ).loc main_arg13) : FVec Ideal S1024 .f32) (ix1 i)
  e2 := fun i j => (m ((c.tc : Thread nD τ).loc main_arg14) : FVec Ideal S1024x20480 .f32) (ix2 i j)
  eb2 := fun i => (m ((c.tc : Thread nD τ).loc main_arg15) : FVec Ideal S20480 .f32) (ix1 i)
  a1 := fun i j => (m ((c.tc : Thread nD τ).loc main_arg16) : FVec Ideal S20480x1024 .f32) (ix2 i j)
  ab1 := fun i => (m ((c.tc : Thread nD τ).loc main_arg17) : FVec Ideal S1024 .f32) (ix1 i)
  ag := fun i => (m ((c.tc : Thread nD τ).loc main_arg18) : FVec Ideal S1024 .f32) (ix1 i)
  abe := fun i => (m ((c.tc : Thread nD τ).loc main_arg19) : FVec Ideal S1024 .f32) (ix1 i)
  am := fun i => (m ((c.tc : Thread nD τ).loc main_arg20) : FVec Ideal S1024 .f32) (ix1 i)
  av := fun i => (m ((c.tc : Thread nD τ).loc main_arg21) : FVec Ideal S1024 .f32) (ix1 i)
  a2 := fun i j => (m ((c.tc : Thread nD τ).loc main_arg22) : FVec Ideal S1024x20 .f32) (ix2 i j)
  ab2 := fun i => (m ((c.tc : Thread nD τ).loc main_arg23) : FVec Ideal S20 .f32) (ix1 i)
  qw := fun i j => (m ((c.tc : Thread nD τ).loc main_arg24) : FVec Ideal S1024x1024 .f32) (ix2 i j)
  qb := fun i => (m ((c.tc : Thread nD τ).loc main_arg25) : FVec Ideal S1024 .f32) (ix1 i)
  kw := fun i j => (m ((c.tc : Thread nD τ).loc main_arg26) : FVec Ideal S1024x1024 .f32) (ix2 i j)
  kb := fun i => (m ((c.tc : Thread nD τ).loc main_arg27) : FVec Ideal S1024 .f32) (ix1 i)
  vw := fun i j => (m ((c.tc : Thread nD τ).loc main_arg28) : FVec Ideal S1024x1024 .f32) (ix2 i j)
  vb := fun i => (m ((c.tc : Thread nD τ).loc main_arg29) : FVec Ideal S1024 .f32) (ix1 i)
  ow := fun i j => (m ((c.tc : Thread nD τ).loc main_arg30) : FVec Ideal S1024x1024 .f32) (ix2 i j)
  ob := fun i => (m ((c.tc : Thread nD τ).loc main_arg31) : FVec Ideal S1024 .f32) (ix1 i)

variable (c : Dev nD)

/-- The sum of each object mask, where the first call leaves it. -/
theorem tot_at (b : Fin 16) (n : Fin 20) : (W2 m ρ c (Proc.devRef .tc main_v3_0) : FVec Ideal S16x1x20 .f32) (ix3 b 0 n) = Net.total ((kargs m c).obj b n) :=
  (congrFun ((W2_arr m ρ c 3).trans (final0_3 (V1 m ρ) c)) (ix3 b 0 n)).trans (Net.total_congr fun h w => h0_v0 (W0 m ρ c) b n h w)

/-- Each object's overlap with its target. -/
theorem com_at (b : Fin 16) (n : Fin 20) : (W2 m ρ c (Proc.devRef .tc main_v3_1) : FVec Ideal S16x1x20 .f32) (ix3 b 0 n)
    = Net.common ((kargs m c).obj b n) ((kargs m c).tgt b) :=
  (congrFun ((W2_arr m ρ c 4).trans (final0_4 (V1 m ρ) c)) (ix3 b 0 n)).trans
    (Net.common_congr (fun h w => h0_v0 (W0 m ρ c) b n h w) fun h w => h0_v1 (W0 m ρ c) b h w)

/-- Each box's intersection over union. -/
theorem rat_at (b : Fin 16) (n : Fin 20) : (W2 m ρ c (Proc.devRef .tc main_v3_2) : FVec Ideal S16x1x20 .f32) (ix3 b 0 n) = Net.ratio (kargs m c) b n :=
  (congrFun ((W2_arr m ρ c 5).trans (final0_5 (V1 m ρ) c)) (ix3 b 0 n)).trans
    (Net.iou_congr (fun h w => h0_v1 (W0 m ρ c) b h w) (h0_v2 (W0 m ρ c) b 0 n) (h0_v2 (W0 m ρ c) b 1 n) (h0_v2 (W0 m ρ c) b 2 n) (h0_v2 (W0 m ρ c) b 3 n))

/-- The relation vectors. -/
theorem rel_at (b : Fin 16) (k : Fin 1024) : relTab (V3 m ρ) c b k = Net.rel (kargs m c) b k :=
  Net.relation_congr (fun b n => (h1_v9 (W2 m ρ c) b n).trans (com_at m ρ c b n)) (fun b n => (h1_v10 (W2 m ρ c) b n).trans (rat_at m ρ c b n))
    (fun n k => (h1_v11 (W2 m ρ c) n k).trans (congrFun (W2_args m ρ c main_arg8 (by decide)) (ix2 (Net.even n) k)))
    (fun n k => (h1_v12 (W2 m ρ c) n k).trans (congrFun (W2_args m ρ c main_arg8 (by decide)) (ix2 (Net.odd n) k)))
    (fun i => (h1_v13 (W2 m ρ c) i).trans (congrFun (W2_args m ρ c main_arg9 (by decide)) (ix1 i)))
    (fun i => (h1_v16 (W2 m ρ c) i).trans (congrFun (W2_args m ρ c main_arg12 (by decide)) (ix1 i)))
    (fun i => (h1_v17 (W2 m ρ c) i).trans (congrFun (W2_args m ρ c main_arg13 (by decide)) (ix1 i)))
    (fun i => (h1_v14 (W2 m ρ c) i).trans (congrFun (W2_args m ρ c main_arg10 (by decide)) (ix1 i)))
    (fun i => (h1_v15 (W2 m ρ c) i).trans (congrFun (W2_args m ρ c main_arg11 (by decide)) (ix1 i))) b k

/-- The queries. -/
theorem q_at (r : Fin 320) (d : Fin 1024) : (W4 m ρ c (Proc.devRef .tc main_v22_0) : FVec Ideal S320x1024 .bf16) (ix2 r d) = Net.qTab (kargs m c) r d :=
  (congrFun ((W4_arr m ρ c 22).trans (final1_22 (V3 m ρ) c)) (ix2 r d)).trans
    (Net.queries_congr (fun r => (h1_v6 (W2 m ρ c) r).trans (tot_at m ρ c (Net.bat r) (Net.nob r)))
      (fun i j => congrFun (W3_args m ρ c main_arg4 (by decide)) (ix2 i j)) (fun i => (h1_v7 (W2 m ρ c) i).trans (congrFun (W2_args m ρ c main_arg5 (by decide)) (ix1 i)))
      (fun i j => congrFun (W3_args m ρ c main_arg6 (by decide)) (ix2 i j)) (fun i => (h1_v8 (W2 m ρ c) i).trans (congrFun (W2_args m ρ c main_arg7 (by decide)) (ix1 i)))
      (fun i j => congrFun (W3_args m ρ c main_arg24 (by decide)) (ix2 i j)) (fun i => (h1_v18 (W2 m ρ c) i).trans (congrFun (W2_args m ρ c main_arg25 (by decide)) (ix1 i))) r d)

/-- The keys. -/
theorem k_at (r : Fin 320) (d : Fin 1024) : (W4 m ρ c (Proc.devRef .tc main_v22_1) : FVec Ideal S20x16x1024 .bf16) (ix3 (Net.nob r) (Net.bat r) d)
    = Net.kvTab (kargs m c) (kargs m c).kw (kargs m c).kb r d :=
  (congrFun ((W4_arr m ρ c 23).trans (final1_23 (V3 m ρ) c)) (ix3 (Net.nob r) (Net.bat r) d)).trans
    (Net.keys_congr (fun b k => rel_at m ρ c b k) (fun k d => congrFun (W3_args m ρ c main_arg14 (by decide)) (ix2 k (Net.slot20 (Net.nob r) d)))
      (fun d => (h1_v19 (W2 m ρ c) (Net.nob r) d).trans (congrFun (W2_args m ρ c main_arg15 (by decide)) (ix1 (Net.slot20 (Net.nob r) d))))
      (fun i j => congrFun (W3_args m ρ c main_arg26 (by decide)) (ix2 i j)) (fun i => (h1_v20 (W2 m ρ c) i).trans (congrFun (W2_args m ρ c main_arg27 (by decide)) (ix1 i))) (Net.bat r) d)

/-- The values. -/
theorem v_at (r : Fin 320) (d : Fin 1024) : (W4 m ρ c (Proc.devRef .tc main_v22_2) : FVec Ideal S20x16x1024 .bf16) (ix3 (Net.nob r) (Net.bat r) d)
    = Net.kvTab (kargs m c) (kargs m c).vw (kargs m c).vb r d :=
  (congrFun ((W4_arr m ρ c 24).trans (final1_24 (V3 m ρ) c)) (ix3 (Net.nob r) (Net.bat r) d)).trans
    (Net.keys_congr (fun b k => rel_at m ρ c b k) (fun k d => congrFun (W3_args m ρ c main_arg14 (by decide)) (ix2 k (Net.slot20 (Net.nob r) d)))
      (fun d => (h1_v19 (W2 m ρ c) (Net.nob r) d).trans (congrFun (W2_args m ρ c main_arg15 (by decide)) (ix1 (Net.slot20 (Net.nob r) d))))
      (fun i j => congrFun (W3_args m ρ c main_arg28 (by decide)) (ix2 i j)) (fun i => (h1_v21 (W2 m ρ c) i).trans (congrFun (W2_args m ρ c main_arg29 (by decide)) (ix1 i))) (Net.bat r) d)

/-- The attention's output. -/
theorem att_at (r : Fin 320) (e : Fin 1024) : attTab (V5 m ρ) c r e = Net.att (kargs m c) r e :=
  Net.attend_congr (fun r d => (congrFun (W5_of m ρ c main_v22_0 (by decide)) (ix2 r d)).trans (q_at m ρ c r d))
    (fun r d => (h2_v23 (W4 m ρ c) r d).trans (k_at m ρ c r d)) (fun r d => (h2_v24 (W4 m ρ c) r d).trans (v_at m ρ c r d))
    (fun i j => congrFun (W5_args m ρ c main_arg30 (by decide)) (ix2 i j)) (fun i => (h2_v25 (W4 m ρ c) i).trans (congrFun (W4_args m ρ c main_arg31 (by decide)) (ix1 i))) r e

/-- The sums of the object masks, as the last call reads them. -/
theorem os_at (b : Fin 16) (n : Fin 20) : (V5 m ρ c main_v4 : FVec Ideal S16x20 .f32) (ix2 b n) = Net.total ((kargs m c).obj b n) :=
  (congrFun ((W5_of m ρ c main_v4 (by decide)).trans (W4_of m ρ c main_v4 (by decide))) (ix2 b n)).trans
    ((h1_v4 (W2 m ρ c) b n).trans (tot_at m ρ c b n))

/-- The scores. -/
theorem out_at (b : Fin 16) (n : Fin 20) : ((dat2 (V5 m ρ) c).arrAt 14 cfg2.N : FVec Ideal S16x20 .f32) (ix2 b n) = Net.out (kargs m c) b n :=
  (congrFun (final2_14 (V5 m ρ) c) (ix2 b n)).trans
    (Net.head_congr
      (fun b e => Finset.sum_congr rfl fun n _ => Finset.sum_congr rfl fun k _ => congrArg₂ (· * ·) (att_at m ρ c (Net.at320 n b) k)
        ((h2_v26 (W4 m ρ c) n k e).trans (congrFun (W4_args m ρ c main_arg16 (by decide)) (ix2 (Net.slot20 n k) e))))
      (fun i => (h2_v27 (W4 m ρ c) i).trans (congrFun (W4_args m ρ c main_arg17 (by decide)) (ix1 i)))
      (fun i => (h2_v30 (W4 m ρ c) i).trans (congrFun (W4_args m ρ c main_arg20 (by decide)) (ix1 i)))
      (fun i => (h2_v31 (W4 m ρ c) i).trans (congrFun (W4_args m ρ c main_arg21 (by decide)) (ix1 i)))
      (fun i => (h2_v28 (W4 m ρ c) i).trans (congrFun (W4_args m ρ c main_arg18 (by decide)) (ix1 i)))
      (fun i => (h2_v29 (W4 m ρ c) i).trans (congrFun (W4_args m ρ c main_arg19 (by decide)) (ix1 i)))
      (fun i j => congrFun (W5_args m ρ c main_arg22 (by decide)) (ix2 i j)) (fun i => (h2_v32 (W4 m ρ c) i).trans (congrFun (W4_args m ρ c main_arg23 (by decide)) (ix1 i)))
      (fun b n => os_at m ρ c b n) b n)

/-- The kernel ends with the network's scores of its arguments. -/
theorem value : θ_run defs (onTc (τ := τ) (main (F := Ideal))) ⟨m, fun _ => 0, ρ⟩ fun r => ∀ c : Dev nD,
    r.2.mem ((c.tc : Thread nD τ).loc main_v33) = fun i : S16x20.Idx => Net.out (kargs m c) (i 0) (i 1) := by
  refine (θ_run defs _ _).mono (fun r h c => (h c).trans (funext fun i => ?_)) (result m ρ)
  exact (congrArg ((dat2 (V5 m ρ) c).arrAt 14 cfg2.N : FVec Ideal S16x20 .f32) (eq_ix2 i)).trans (out_at m ρ c (i 0) (i 1))

end Cert.KernelIdeal.Val
end
-- ==== Proof.Pre.lean ====
/- What the precondition says: the arguments it names are real numbers, and two of them are not negative. -/
module

public import proofs.«01_k».proof.Defs
public import proofs.«01_k».proof.Proof.Gen.Pre_scores_finite
public import proofs.«01_k».proof.Proof.Good
public import proofs.«01_k».proof.Proof.KV
public import Idealize.ShloMosaic.Lib.ReduceAll
public import Idealize.ShloMosaic.Lib.Affine

@[expose] public section

set_option maxRecDepth 16384

noncomputable section

open Idealize.ShloMosaic Idealize.ShloMosaic.TcCoe
open Cert.Pre_scores_finite
namespace Cert.Pre

instance : Subsingleton S_.Idx := ⟨fun _ _ => funext fun a => a.elim0⟩

theorem both {a b : IVec S_ 1} {j : S_.Idx} (e : andi a b j = 1#1) : a j = 1#1 ∧ b j = 1#1 := IntOp.andi_eq_one.1 e

theorem of_bit {p : Prop} [Decidable p] (e : BitVec.ofBool (decide p) = 1#1) : p := by
  by_contra h
  rw [decide_eq_false h] at e
  exact absurd e (by decide)

/-- An array whose magnitudes are all below infinity holds real numbers. -/
theorem real_of {s : Shape} {axes : List (Fin s.rank)} (x : FVec Ideal s .f32) (bc : S_.BroadcastsInDim s (![] : Fin 0 → Fin s.rank)) (hr : s.ReducesTo axes S_) (hu : 0 < S_.numel) (j : S_.Idx)
    (e : Host.reduce IntOp.andi (cmpf .olt (Host.absf x) (broadcastInDim s ![] bc (constant S_ .f32 0x7F800000#32))) (constantI S_ 1 1#1) hr hu j = 1#1)
    (i : s.Idx) : Net.IsR (x i) := by
  have h : BitVec.ofBool (decide (max (x i) (-(x i)) < Ideal.ofBits .f32 0x7F800000#32)) = 1#1 := Host.reduce_andi_all _ _ hr hu j e i
  exact Net.IsR.of_abs (by have := of_bit h; rwa [Net.posInf] at this)

/-- An array all of whose entries are at least zero. -/
theorem nonneg_of {s : Shape} {axes : List (Fin s.rank)} (x : FVec Ideal s .f32) (bc : S_.BroadcastsInDim s (![] : Fin 0 → Fin s.rank)) (hr : s.ReducesTo axes S_) (hu : 0 < S_.numel) (j : S_.Idx)
    (e : Host.reduce IntOp.andi (cmpf .oge x (broadcastInDim s ![] bc (constant S_ .f32 0x00000000#32))) (constantI S_ 1 1#1) hr hu j = 1#1)
    (i : s.Idx) : (0 : EReal) ≤ x i := by
  have h : BitVec.ofBool (decide (Ideal.ofBits .f32 0x00000000#32 ≤ x i)) = 1#1 := Host.reduce_andi_all _ _ hr hu j e i
  have z : Ideal.ofBits .f32 0x00000000#32 = 0 := by simp [Ideal.ofBits, Ideal.ieee]
  have := of_bit h
  rwa [z] at this

/-- The kernel's arguments under the precondition. -/
theorem good (m : (ℓ : Loc Cert.KernelIdeal.nD Cert.KernelIdeal.τ Cert.KernelIdeal.sig) → Buf (Elt Ideal) ℓ)
    (h : @Cert.Pre_KernelIdeal_scores_finite Cert.Pre_scores_finite.Gen.facts m) (c : Dev Cert.KernelIdeal.nD) : Net.Good (Cert.KernelIdeal.Val.kargs m c) := by
  have e := congrFun (h c) (fun a => a.elim0)
  unfold fn fn_part1 fn_part2 fn_part3 fn_part4 fn_part5 at e
  dsimp only at e
  obtain ⟨e, r27⟩ := both e
  obtain ⟨e, r26⟩ := both e
  obtain ⟨e, r25⟩ := both e
  obtain ⟨e, r24⟩ := both e
  obtain ⟨e, r15⟩ := both e
  obtain ⟨e, r14⟩ := both e
  obtain ⟨e, r13⟩ := both e
  obtain ⟨e, r12⟩ := both e
  obtain ⟨e, r11⟩ := both e
  obtain ⟨e, r10⟩ := both e
  obtain ⟨e, r9⟩ := both e
  obtain ⟨e, r8⟩ := both e
  obtain ⟨e, r7⟩ := both e
  obtain ⟨e, r6⟩ := both e
  obtain ⟨e, r5⟩ := both e
  obtain ⟨e, r4⟩ := both e
  obtain ⟨e, r2⟩ := both e
  obtain ⟨e, r1⟩ := both e
  obtain ⟨p1, p13⟩ := both e
  exact {
    obj := fun b n h w => real_of _ _ _ _ _ r2 (ix5 b n 0 h w)
    tgt := fun b h w => real_of _ _ _ _ _ r1 (ix4 b 0 h w)
    tgt0 := fun b h w => nonneg_of _ _ _ _ _ p1 (ix4 b 0 h w)
    ev0 := fun i => nonneg_of _ _ _ _ _ p13 (ix1 i)
    w1 := fun i j => real_of _ _ _ _ _ r4 (ix2 i j)
    b1 := fun i => real_of _ _ _ _ _ r5 (ix1 i)
    fw := fun i j => real_of _ _ _ _ _ r6 (ix2 i j)
    fb := fun i => real_of _ _ _ _ _ r7 (ix1 i)
    e1 := fun i j => real_of _ _ _ _ _ r8 (ix2 i j)
    eb1 := fun i => real_of _ _ _ _ _ r9 (ix1 i)
    eg := fun i => real_of _ _ _ _ _ r10 (ix1 i)
    ebe := fun i => real_of _ _ _ _ _ r11 (ix1 i)
    em := fun i => real_of _ _ _ _ _ r12 (ix1 i)
    ev := fun i => real_of _ _ _ _ _ r13 (ix1 i)
    e2 := fun i j => real_of _ _ _ _ _ r14 (ix2 i j)
    eb2 := fun i => real_of _ _ _ _ _ r15 (ix1 i)
    qw := fun i j => real_of _ _ _ _ _ r24 (ix2 i j)
    qb := fun i => real_of _ _ _ _ _ r25 (ix1 i)
    kw := fun i j => real_of _ _ _ _ _ r26 (ix2 i j)
    kb := fun i => real_of _ _ _ _ _ r27 (ix1 i) }

end Cert.Pre
end
-- ==== Proof.Ref0.lean ====
/- What the reference's named intermediate values are, index by index. -/
module

public import proofs.«01_k».proof.Proof.Gen.ReferenceIdeal.Run
public import proofs.«01_k».proof.Proof.Good

@[expose] public section

set_option maxRecDepth 16384

noncomputable section

open Idealize.ShloMosaic Idealize.ShloMosaic.TcCoe
open Cert.ReferenceIdeal Cert.ReferenceIdeal.Gen Cert.ReferenceIdeal.Value
namespace Cert.ReferenceIdeal.Val

variable (V0 : Valuation τ sig (Elt Ideal))

/-- The arguments' tables, from the contents of the buffers. -/
def args : Net.Args where
  obj := fun b n h w => (V0 (Proc.devRef .tc main_arg2) : FVec Ideal S16x20x1x224x224 .f32) (ix5 b n 0 h w)
  tgt := fun b h w => (V0 (Proc.devRef .tc main_arg1) : FVec Ideal S16x1x224x224 .f32) (ix4 b 0 h w)
  box := fun b n c => (V0 (Proc.devRef .tc main_arg3) : FVec Ideal S16x20x4 .f32) (ix3 b n c)
  w1 := fun i j => (V0 (Proc.devRef .tc main_arg4) : FVec Ideal S3x2048 .f32) (ix2 i j)
  b1 := fun i => (V0 (Proc.devRef .tc main_arg5) : FVec Ideal S2048 .f32) (ix1 i)
  fw := fun i j => (V0 (Proc.devRef .tc main_arg6) : FVec Ideal S2048x1024 .f32) (ix2 i j)
  fb := fun i => (V0 (Proc.devRef .tc main_arg7) : FVec Ideal S1024 .f32) (ix1 i)
  e1 := fun i j => (V0 (Proc.devRef .tc main_arg8) : FVec Ideal S40x1024 .f32) (ix2 i j)
  eb1 := fun i => (V0 (Proc.devRef .tc main_arg9) : FVec Ideal S1024 .f32) (ix1 i)
  eg := fun i => (V0 (Proc.devRef .tc main_arg10) : FVec Ideal S1024 .f32) (ix1 i)
  ebe := fun i => (V0 (Proc.devRef .tc main_arg11) : FVec Ideal S1024 .f32) (ix1 i)
  em := fun i => (V0 (Proc.devRef .tc main_arg12) : FVec Ideal S1024 .f32) (ix1 i)
  ev := fun i => (V0 (Proc.devRef .tc main_arg13) : FVec Ideal S1024 .f32) (ix1 i)
  e2 := fun i j => (V0 (Proc.devRef .tc main_arg14) : FVec Ideal S1024x20480 .f32) (ix2 i j)
  eb2 := fun i => (V0 (Proc.devRef .tc main_arg15) : FVec Ideal S20480 .f32) (ix1 i)
  a1 := fun i j => (V0 (Proc.devRef .tc main_arg16) : FVec Ideal S20480x1024 .f32) (ix2 i j)
  ab1 := fun i => (V0 (Proc.devRef .tc main_arg17) : FVec Ideal S1024 .f32) (ix1 i)
  ag := fun i => (V0 (Proc.devRef .tc main_arg18) : FVec Ideal S1024 .f32) (ix1 i)
  abe := fun i => (V0 (Proc.devRef .tc main_arg19) : FVec Ideal S1024 .f32) (ix1 i)
  am := fun i => (V0 (Proc.devRef .tc main_arg20) : FVec Ideal S1024 .f32) (ix1 i)
  av := fun i => (V0 (Proc.devRef .tc main_arg21) : FVec Ideal S1024 .f32) (ix1 i)
  a2 := fun i j => (V0 (Proc.devRef .tc main_arg22) : FVec Ideal S1024x20 .f32) (ix2 i j)
  ab2 := fun i => (V0 (Proc.devRef .tc main_arg23) : FVec Ideal S20 .f32) (ix1 i)
  qw := fun i j => (V0 (Proc.devRef .tc main_arg24) : FVec Ideal S1024x1024 .f32) (ix2 i j)
  qb := fun i => (V0 (Proc.devRef .tc main_arg25) : FVec Ideal S1024 .f32) (ix1 i)
  kw := fun i j => (V0 (Proc.devRef .tc main_arg26) : FVec Ideal S1024x1024 .f32) (ix2 i j)
  kb := fun i => (V0 (Proc.devRef .tc main_arg27) : FVec Ideal S1024 .f32) (ix1 i)
  vw := fun i j => (V0 (Proc.devRef .tc main_arg28) : FVec Ideal S1024x1024 .f32) (ix2 i j)
  vb := fun i => (V0 (Proc.devRef .tc main_arg29) : FVec Ideal S1024 .f32) (ix1 i)
  ow := fun i j => (V0 (Proc.devRef .tc main_arg30) : FVec Ideal S1024x1024 .f32) (ix2 i j)
  ob := fun i => (V0 (Proc.devRef .tc main_arg31) : FVec Ideal S1024 .f32) (ix1 i)

theorem v0_at (b : Fin 16) (n : Fin 20) (h w : Fin 224) : (res_main_v0 V0 : FVec Ideal S16x20x224x224 .f32) (ix4 b n h w) = (args V0).obj b n h w := by
  pointwise [res_main_v0, args]

theorem v1_at (b : Fin 16) (h w : Fin 224) : (res_main_v1 V0 : FVec Ideal S16x224x224 .f32) (ix3 b h w) = (args V0).tgt b h w := by
  pointwise [res_main_v1, args]

theorem v44_at (b : Fin 16) (n : Fin 20) (h : Fin 224) :
    (res_main_v44 V0 : IVec S16x20x224 1) (ix3 b n h) = Net.bit ((args V0).box b n 1) ((args V0).box b n 3) h := by
  pointwise [res_main_v44, res_main_v32, args, Net.bit]

theorem v55_at (b : Fin 16) (n : Fin 20) (h : Fin 224) :
    (res_main_v55 V0 : IVec S16x20x224 1) (ix3 b n h) = Net.bit ((args V0).box b n 0) ((args V0).box b n 2) h := by
  pointwise [res_main_v55, res_main_v33, args, Net.bit]

theorem v62_at (b : Fin 16) (n : Fin 20) : (res_main_v62 V0 : FVec Ideal S16x20 .f32) (ix2 b n)
    = Net.inter ((args V0).tgt b) ((args V0).box b n 0) ((args V0).box b n 1) ((args V0).box b n 2) ((args V0).box b n 3) := by
  unfold res_main_v62
  refine Eq.trans ?_ (Net.inter_eq ((args V0).tgt b) ((args V0).box b n 0) ((args V0).box b n 1) ((args V0).box b n 2) ((args V0).box b n 3))
  pointwise
  simp only [v44_at, v55_at, v1_at]

theorem rows_at (b : Fin 16) (n : Fin 20) :
    FloatOps.sitofp (F := Ideal) .f32 (Host.reduce IntOp.addi (extui 32 (res_main_v44 V0) natLt_1_32) (constantI S_ 32 0#32) reducesTo_S16x20x224_S16x20_d2 h_S_ (ix2 b n))
      = Net.side ((args V0).box b n 1) ((args V0).box b n 3) := by
  refine Eq.trans ?_ (Net.side_eq _ _)
  refine congrArg _ ?_
  pointwise
  refine (Shape.ReducesTo.fold_fiber_r3_a2 reducesTo_S16x20x224_S16x20_d2 (ix2 b n) IntOp.addi 0#32 _).trans ?_
  refine congrArg (fun f => Finset.fold IntOp.addi 0#32 f Finset.univ) (funext fun k => ?_)
  exact congrArg (BitVec.setWidth 32) (v44_at V0 b n k)

theorem cols_at (b : Fin 16) (n : Fin 20) :
    FloatOps.sitofp (F := Ideal) .f32 (Host.reduce IntOp.addi (extui 32 (res_main_v55 V0) natLt_1_32) (constantI S_ 32 0#32) reducesTo_S16x20x224_S16x20_d2 h_S_ (ix2 b n))
      = Net.side ((args V0).box b n 0) ((args V0).box b n 2) := by
  refine Eq.trans ?_ (Net.side_eq _ _)
  refine congrArg _ ?_
  pointwise
  refine (Shape.ReducesTo.fold_fiber_r3_a2 reducesTo_S16x20x224_S16x20_d2 (ix2 b n) IntOp.addi 0#32 _).trans ?_
  refine congrArg (fun f => Finset.fold IntOp.addi 0#32 f Finset.univ) (funext fun k => ?_)
  exact congrArg (BitVec.setWidth 32) (v55_at V0 b n k)

/-- The relation features. -/
theorem v106_at (b : Fin 16) (n : Fin 20) (e : Fin 1024) : (res_main_v106 V0 : FVec Ideal S16x20x1024 .f32) (ix3 b n e)
    = Net.dense (Net.rel (args V0)) (fun k d => (args V0).e2 k (Net.slot20 n d)) (fun d => (args V0).eb2 (Net.slot20 n d)) b e := by
  have hr := rows_at V0 b
  have hc := cols_at V0 b
  unfold res_main_v106
  pointwise at hr hc ⊢
  simp only [hr, hc, v0_at, v1_at, v62_at, dite_eq_ite]
  unfold Net.dense
  simp only [Net.rel_eq]
  rfl

/-- The scaled scores. -/
theorem v127_at (G : Net.Good (args V0)) (b : Fin 16) (h : Fin 4) (i j : Fin 20) : (res_main_v127 V0 : FVec Ideal S16x4x20x20 .f32) (ix4 b h i j)
    = Net.rowScore (Net.qTab (args V0)) (Net.kvTab (args V0) (args V0).kw (args V0).kb) h.val h.isLt b i j := by
  unfold res_main_v127 Net.rowScore
  pointwise
  simp only [v0_at, v106_at]
  rw [Net.sixteen, Ideal.div_coe (by norm_num), Net.sixteenth]
  refine congrArg₂ (· * ·) (Finset.sum_congr rfl fun d _ => congrArg₂ (· * ·) ?_ ?_) rfl
  · exact (Net.q_row (args V0) i b _ (Net.total_real (G.obj b i)) G.w1).symm
  · exact (Net.kv_row (args V0) (args V0).kw (args V0).kb j b (Net.col h.val h.isLt d)).symm

/-- The softmax's weights. -/
theorem v134_at (G : Net.Good (args V0)) (b : Fin 16) (h : Fin 4) (i j : Fin 20) : (res_main_v134 V0 : FVec Ideal S16x4x20x20 .f32) (ix4 b h i j)
    = Net.weight (Net.rowScore (Net.qTab (args V0)) (Net.kvTab (args V0) (args V0).kw (args V0).kb) h.val h.isLt b) i j := by
  unfold res_main_v134
  pointwise
  refine congrArg Ideal.exp (congrArg₂ (· - ·) (v127_at V0 G b h i j) ?_)
  rw [Net.negInf, max_eq_right bot_le]
  refine (Shape.ReducesTo.fold_fiber_r4_a3 reducesTo_S16x4x20x20_S16x4x20_d3 (ix3 b h i) max ⊥ _).trans ?_
  exact congrArg (fun f => Finset.fold max ⊥ f Finset.univ) (funext fun l => v127_at V0 G b h i l)

end Cert.ReferenceIdeal.Val

end
-- ==== Proof.Ref1.lean ====
/- What the reference returns, index by index. -/
module

public import proofs.«01_k».proof.Proof.Ref0

@[expose] public section

set_option maxRecDepth 16384
set_option maxHeartbeats 4000000

noncomputable section

open Idealize.ShloMosaic Idealize.ShloMosaic.TcCoe
open Cert.ReferenceIdeal Cert.ReferenceIdeal.Gen Cert.ReferenceIdeal.Value
namespace Cert.ReferenceIdeal.Val

/-- What the attention's output projection is at one batch row, read off the softmax's weights and the values. -/
theorem att_at (V0 : Valuation τ sig (Elt Ideal)) (G : Net.Good (args V0)) (b : Fin 16) (n : Fin 20) (e : Fin 1024)
    (W : Fin 1024 → Fin 20 → EReal) (U : Fin 20 → Fin 1024 → EReal)
    (hW : ∀ x j, W x j = Net.weight (Net.rowScore (Net.qTab (args V0)) (Net.kvTab (args V0) (args V0).kw (args V0).kb) (x.val / 256) (by omega) b) n j)
    (hU : ∀ j x, U j x = Net.kvTab (args V0) (args V0).vw (args V0).vb (Net.at320 j b) x) :
    (∑ x : Fin 1024, (∑ j, Ideal.div (W x j) (∑ l, W x l) * U j x) * (args V0).ow x e) + (args V0).ob e = Net.att (args V0) (Net.at320 n b) e := by
  simp only [hW, hU]
  exact Net.attend_row _ _ _ (args V0).ow (args V0).ob n b e (fun r d => Net.qTab_real G r d) (fun r d => Net.kTab_real G r d)

/-- The reference ends with the network's scores of its arguments. -/
theorem value (m : (ℓ : Loc nD τ sig) → Buf (Elt Ideal) ℓ) (ρ : Dev nD → PrngReg) (G : ∀ c, Net.Good (args (StableHlo.launchContents m c))) :
    θ_run defs (onTc (τ := τ) (main (F := Ideal))) ⟨m, fun _ => 0, ρ⟩ fun r => ∀ c : Dev nD,
      r.2.mem ((c.tc : Thread nD τ).loc main_v174) = fun i : S16x20.Idx => Net.out (args (StableHlo.launchContents m c)) (i 0) (i 1) := by
  refine (θ_run defs _ _).mono (fun r h c => (h c).1.trans (funext fun i => ?_)) (run (F := Ideal) m ρ)
  have G := G c
  clear h
  idx_vars i
  unfold Net.out Net.head Net.dense Net.total
  pointwise
  simp only [v0_at, v106_at, v134_at _ G]
  by_cases hz : (∑ h, ∑ w, (args (StableHlo.launchContents m c)).obj i0 i1 h w) = 0
  · rw [if_pos hz, if_pos hz]
  rw [if_neg hz, if_neg hz]
  refine congrArg₂ (· + ·) ?_ rfl
  refine Finset.sum_congr rfl fun x _ => ?_
  refine congrArg₂ (· * ·) ?_ rfl
  unfold Net.bnrelu
  refine congrArg₂ max (congrArg₂ (· + ·) (congrArg₂ (· * ·) (congrArg₂ (· * ·) (congrArg₂ (· - ·) (congrArg₂ (· + ·) ?_ rfl) rfl) rfl) rfl) rfl) rfl
  refine (Net.flat_eq _).trans (Finset.sum_congr rfl fun n _ => Finset.sum_congr rfl fun k _ => ?_)
  have hn : ∀ h, (⟨(Net.slot20 n k).val / 1024, h⟩ : Fin 20) = n := fun h => Fin.ext (by have := k.isLt; show (n.val * 1024 + k.val) / 1024 = n.val; omega)
  have hk : ∀ h, (⟨(Net.slot20 n k).val % 1024, h⟩ : Fin 1024) = k := fun h => Fin.ext (by have := k.isLt; show (n.val * 1024 + k.val) % 1024 = k.val; omega)
  simp only [hn, hk]
  refine congrArg₂ (· * ·) ?_ rfl
  exact att_at _ G i0 n k _ _ (fun x j => rfl) (fun j x => (Net.kv_row (args (StableHlo.launchContents m c)) (args (StableHlo.launchContents m c)).vw (args (StableHlo.launchContents m c)).vb j i0 x).symm)

end Cert.ReferenceIdeal.Val

end
-- ==== Proof.Algebraic.lean ====
/- The kernel and the reference, from arguments that agree and satisfy the precondition, end with the same scores. -/
module

public import proofs.«01_k».proof.Proof.Frames
public import proofs.«01_k».proof.Proof.Gen.Pre_scores_finite
public import proofs.«01_k».proof.Proof.Pre
public import proofs.«01_k».proof.Proof.KV
public import proofs.«01_k».proof.Proof.Ref1
public import Idealize.ShloMosaic.Lib.Claim

@[expose] public section

set_option maxRecDepth 16384

noncomputable section

open Idealize.ShloMosaic Idealize.ShloMosaic.TcCoe Idealize.SL.Sem

namespace Cert.Proof

theorem frame_pi_pre : @Cert.quiescent_KernelIdeal_pre_scores_finite Cert.KernelIdeal.Gen.facts Cert.Pre_scores_finite.Gen.facts :=
  fun m ρ _ => Cert.KernelIdeal.Calls.frame m ρ

theorem frame_ri_pre : @Cert.quiescent_ReferenceIdeal_pre_scores_finite Cert.ReferenceIdeal.Gen.facts Cert.Pre_scores_finite.Gen.facts :=
  fun m ρ _ => frame_ri m ρ trivial

/-- Arguments that agree array by array are the same tables. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) :
    Cert.ReferenceIdeal.Val.args (StableHlo.launchContents m' c) = Cert.KernelIdeal.Val.kargs m c := by
  obtain ⟨h0, h1, h2, h3, h4, h5, h6, h7, h8, h9, h10, h11, h12, h13, h14, h15, h16, h17, h18, h19, h20, h21, h22, h23, h24, h25, h26, h27, h28, h29, h30, h31⟩ := h
  unfold Cert.ReferenceIdeal.Val.args Cert.KernelIdeal.Val.kargs
  rw [Net.Args.mk.injEq]
  exact ⟨funext fun b => funext fun n => funext fun y => funext fun x => congrFun h2 (ix5 b n 0 y x),
    funext fun b => funext fun y => funext fun x => congrFun h1 (ix4 b 0 y x),
    funext fun b => funext fun n => funext fun k => congrFun h3 (ix3 b n k),
    funext fun i => funext fun j => congrFun h4 (ix2 i j),
    funext fun i => congrFun h5 (ix1 i),
    funext fun i => funext fun j => congrFun h6 (ix2 i j),
    funext fun i => congrFun h7 (ix1 i),
    funext fun i => funext fun j => congrFun h8 (ix2 i j),
    funext fun i => congrFun h9 (ix1 i),
    funext fun i => congrFun h10 (ix1 i),
    funext fun i => congrFun h11 (ix1 i),
    funext fun i => congrFun h12 (ix1 i),
    funext fun i => congrFun h13 (ix1 i),
    funext fun i => funext fun j => congrFun h14 (ix2 i j),
    funext fun i => congrFun h15 (ix1 i),
    funext fun i => funext fun j => congrFun h16 (ix2 i j),
    funext fun i => congrFun h17 (ix1 i),
    funext fun i => congrFun h18 (ix1 i),
    funext fun i => congrFun h19 (ix1 i),
    funext fun i => congrFun h20 (ix1 i),
    funext fun i => congrFun h21 (ix1 i),
    funext fun i => funext fun j => congrFun h22 (ix2 i j),
    funext fun i => congrFun h23 (ix1 i),
    funext fun i => funext fun j => congrFun h24 (ix2 i j),
    funext fun i => congrFun h25 (ix1 i),
    funext fun i => funext fun j => congrFun h26 (ix2 i j),
    funext fun i => congrFun h27 (ix1 i),
    funext fun i => funext fun j => congrFun h28 (ix2 i j),
    funext fun i => congrFun h29 (ix1 i),
    funext fun i => funext fun j => congrFun h30 (ix2 i j),
    funext fun i => congrFun h31 (ix1 i)⟩

theorem algebraic : @Cert.algebraic_KernelIdeal_ReferenceIdeal_pre_scores_finite Cert.KernelIdeal.Gen.facts Cert.ReferenceIdeal.Gen.facts
    Cert.Pre_scores_finite.Gen.facts := by
  intro m g m' g' hp ha
  have e := fun c => args_eq m m' c (ha c)
  have G : ∀ c, Net.Good (Cert.ReferenceIdeal.Val.args (StableHlo.launchContents m' c)) := fun c => by rw [e c]; exact Cert.Pre.good m hp c
  refine ⟨fun c => fun i : Cert.KernelIdeal.S16x20.Idx => Net.out (Cert.KernelIdeal.Val.kargs m c) (i 0) (i 1), ?_, ?_⟩
  · exact (θ_run Cert.KernelIdeal.defs _ _).mono (fun r h c => ⟨h.1 c, h.2.1 c⟩)
      (θ_run_and (Cert.KernelIdeal.Val.value m g) (Cert.KernelIdeal.Calls.frame m g))
  · exact (θ_run Cert.ReferenceIdeal.defs _ _).mono (fun r h c => ⟨(h.1 c).trans (by rw [e c]), h.2.1 c⟩)
      (θ_run_and (Cert.ReferenceIdeal.Val.value m' g' G) (frame_ri m' g' trivial))

end Cert.Proof
end
-- ==== Proof.lean ====
module

public import proofs.«01_k».proof.Defs
public import proofs.«01_k».proof.Proof.Frames
public import proofs.«01_k».proof.Proof.Algebraic

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_scores_finite.Gen.facts,
    frame_p, frame_pi, frame_pi_pre, frame_ri, frame_ri_pre, preserves, algebraic⟩

end Cert.Proof

end
